-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_range [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_in_range [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_in_range [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel)
    ∧ quiescent_KernelIdeal (hKernelIdeal := hKernelIdeal)
    ∧ quiescent_KernelIdeal_pre_rows_in_range (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal_pre_rows_in_range (hKernelIdeal := hKernelIdeal) (hReferenceIdeal := hReferenceIdeal) (hPre_rows_in_range := hPre_rows_in_range)
-- ==== Pre_rows_in_range.lean ====
abbrev S3x4096x7168 : Shape := ⟨3, ![3, 4096, 7168]⟩
abbrev S7168x7168 : Shape := ⟨2, ![7168, 7168]⟩
abbrev S7168 : Shape := ⟨1, ![7168]⟩
abbrev S_ : Shape := ⟨0, ![]⟩
abbrev S3x4096 : Shape := ⟨2, ![3, 4096]⟩

class Facts : Prop where
  bitsLt_bf16_f32 : FTy.bits .bf16 < FTy.bits .f32
  reducesTo_S3x4096x7168_S3x4096_d2 : S3x4096x7168.ReducesTo [2] S3x4096
  h_S_ : 0 < S_.numel
  bcast_S_S3x4096 : S_.BroadcastsInDim S3x4096 (![] : Fin 0 → Fin S3x4096.rank)
  reducesTo_S3x4096_S_d0_1 : S3x4096.ReducesTo [0, 1] S_

variable [Facts]

def fn {F : FTy → Type} [FloatOps F] (main_arg0 : FVec F S3x4096x7168 .bf16) (main_arg1 : FVec F S7168x7168 .fp8e4m3) (main_arg2 : FVec F S7168 .f32) (main_arg3 : FVec F S3x4096x7168 .bf16) : IVec S_ 1 :=
  let main_v0 : FVec F S3x4096x7168 .f32 := (extf .f32 · bitsLt_bf16_f32) main_arg0
  let main_v1 : FVec F S3x4096x7168 .f32 := Host.absf main_v0
  let main_cst : FVec F S_ .f32 := constant S_ .f32 0xFF800000#32
  let main_v2 : FVec F S3x4096 .f32 := (fun x v => Host.reduce FloatOps.maximumf x v reducesTo_S3x4096x7168_S3x4096_d2 h_S_) main_v1 main_cst
  let main_cst_0 : FVec F S_ .f32 := constant S_ .f32 0x7F7F0000#32
  let main_v3 : FVec F S3x4096 .f32 := broadcastInDim S3x4096 ![] bcast_S_S3x4096 main_cst_0
  let main_v4 : IVec S3x4096 1 := cmpf .ole main_v2 main_v3
  let main_cst_1 : FVec F S_ .f32 := constant S_ .f32 0x7F800000#32
  let main_v5 : FVec F S3x4096 .f32 := broadcastInDim S3x4096 ![] bcast_S_S3x4096 main_cst_1
  let main_v6 : IVec S3x4096 1 := cmpf .oeq main_v2 main_v5
  let main_v7 : IVec S3x4096 1 := ori main_v4 main_v6
  let main_c : IVec S_ 1 := constantI S_ 1 1#1
  let main_v8 : IVec S_ 1 := (fun x v => Host.reduce IntOp.andi x v reducesTo_S3x4096_S_d0_1 h_S_) main_v7 main_c
  main_v8
-- ==== Kernel.lean ====
abbrev S3x4096x7168 : Shape := ⟨3, ![3, 4096, 7168]⟩
abbrev S7168x7168 : Shape := ⟨2, ![7168, 7168]⟩
abbrev S7168 : Shape := ⟨1, ![7168]⟩
abbrev S12288x7168 : Shape := ⟨2, ![12288, 7168]⟩
abbrev S1x7168 : Shape := ⟨2, ![1, 7168]⟩
abbrev S1536x8x7168 : Shape := ⟨3, ![1536, 8, 7168]⟩
abbrev S12288x1 : Shape := ⟨2, ![12288, 1]⟩
abbrev S1024x7168 : Shape := ⟨2, ![1024, 7168]⟩
abbrev S7168x512 : Shape := ⟨2, ![7168, 512]⟩
abbrev S1x512 : Shape := ⟨2, ![1, 512]⟩
abbrev S1024x512 : Shape := ⟨2, ![1024, 512]⟩
abbrev S128x8x512 : Shape := ⟨3, ![128, 8, 512]⟩
abbrev S1024x1 : Shape := ⟨2, ![1024, 1]⟩
abbrev S32x7168 : Shape := ⟨2, ![32, 7168]⟩
abbrev S32 : Shape := ⟨1, ![32]⟩
abbrev S32x1 : Shape := ⟨2, ![32, 1]⟩
abbrev S3x4096x1 : Shape := ⟨3, ![3, 4096, 1]⟩

abbrev nBuf : Space → Nat
  | .hbm => 13
  | .vmem => 14
  | .smem => 0
  | _ => 0

abbrev bufTy : (tb : Table) → Fin (tcTables nBuf tb) → BufTy
  | .hbm, ⟨0, _⟩ => ⟨S3x4096x7168, .bf16⟩
  | .hbm, ⟨1, _⟩ => ⟨S7168x7168, .fp8e4m3⟩
  | .hbm, ⟨2, _⟩ => ⟨S7168, .f32⟩
  | .hbm, ⟨3, _⟩ => ⟨S3x4096x7168, .bf16⟩
  | .hbm, ⟨4, _⟩ => ⟨S12288x7168, .bf16⟩
  | .hbm, ⟨5, _⟩ => ⟨S1x7168, .f32⟩
  | .hbm, ⟨6, _⟩ => ⟨S12288x7168, .bf16⟩
  | .hbm, ⟨7, _⟩ => ⟨S1536x8x7168, .bf16⟩
  | .hbm, ⟨8, _⟩ => ⟨S12288x7168, .fp8e4m3⟩
  | .hbm, ⟨9, _⟩ => ⟨S12288x1, .f32⟩
  | .hbm, ⟨10, _⟩ => ⟨S3x4096x7168, .bf16⟩
  | .hbm, ⟨11, _⟩ => ⟨S3x4096x7168, .fp8e4m3⟩
  | .hbm, ⟨12, _⟩ => ⟨S3x4096x1, .f32⟩
  | .local _ .vmem, ⟨0, _⟩ => ⟨S1024x7168, .bf16⟩
  | .local _ .vmem, ⟨1, _⟩ => ⟨S1024x7168, .bf16⟩
  | .local _ .vmem, ⟨2, _⟩ => ⟨S7168x512, .fp8e4m3⟩
  | .local _ .vmem, ⟨3, _⟩ => ⟨S7168x512, .fp8e4m3⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S128x8x512, .bf16⟩
  | .local _ .vmem, ⟨9, _⟩ => ⟨S128x8x512, .bf16⟩
  | .local _ .vmem, ⟨10, _⟩ => ⟨S1024x7168, .fp8e4m3⟩
  | .local _ .vmem, ⟨11, _⟩ => ⟨S1024x7168, .fp8e4m3⟩
  | .local _ .vmem, ⟨12, _⟩ => ⟨S1024x1, .f32⟩
  | .local _ .vmem, ⟨13, _⟩ => ⟨S1024x1, .f32⟩
  | _, _ => ⟨S3x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 14], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c32_i32 : BitVec 32 := 32#32
  let v22 : BitVec 32 := Scalar.addi c0_i32_13 c32_i32
  let c1_i32 : BitVec 32 := 1#32
  ⟨c0_i32_13, v22, c1_i32⟩
def k0_off1 (k0_t1 : Fin k0_t1_loop.trips) : Fin 2 → Nat :=
  let c0_i32_13 : BitVec 32 := 0#32
  let c1_i32 : BitVec 32 := 1#32
  let arg9 : BitVec 32 := Scf.iv c0_i32_13 c1_i32 k0_t1
  let c32_i32_15 : BitVec 32 := 32#32
  let v23 : BitVec 32 := Scalar.muli arg9 c32_i32_15
  let v24 : Index := Scalar.indexCast v23
  let c0_16 : Index := 0#32
  ![v24.toNat, 0]
def k0_off2 (k0_t1 : Fin k0_t1_loop.trips) : Fin 2 → Nat :=
  let c0_i32_13 : BitVec 32 := 0#32
  let c1_i32 : BitVec 32 := 1#32
  let arg9 : BitVec 32 := Scf.iv c0_i32_13 c1_i32 k0_t1
  let c32_i32_15 : BitVec 32 := 32#32
  let v23 : BitVec 32 := Scalar.muli arg9 c32_i32_15
  let v181 : Index := Scalar.indexCast v23
  let c0_69 : Index := 0#32
  ![v181.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S7168x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x7168 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S3x4096x7168 : Shape := ⟨3, ![3, 4096, 7168]⟩
abbrev S7168x7168 : Shape := ⟨2, ![7168, 7168]⟩
abbrev S7168 : Shape := ⟨1, ![7168]⟩
abbrev S_ : Shape := ⟨0, ![]⟩
abbrev S3x4096 : Shape := ⟨2, ![3, 4096]⟩
abbrev S3x4096x1 : Shape := ⟨3, ![3, 4096, 1]⟩
abbrev S12288x7168 : Shape := ⟨2, ![12288, 7168]⟩
abbrev S1x1x7168 : Shape := ⟨3, ![1, 1, 7168]⟩

abbrev nBuf : Space → Nat
  | .hbm => 64
  | .vmem => 3
  | .smem => 0
  | _ => 0

abbrev bufTy : (tb : Table) → Fin (tcTables nBuf tb) → BufTy
  | .hbm, ⟨0, _⟩ => ⟨S3x4096x7168, .bf16⟩
  | .hbm, ⟨1, _⟩ => ⟨S7168x7168, .fp8e4m3⟩
  | .hbm, ⟨2, _⟩ => ⟨S7168, .f32⟩
  | .hbm, ⟨3, _⟩ => ⟨S3x4096x7168, .bf16⟩
  | .hbm, ⟨4, _⟩ => ⟨S3x4096x7168, .f32⟩
  | .hbm, ⟨5, _⟩ => ⟨S3x4096x7168, .f32⟩
  | .hbm, ⟨6, _⟩ => ⟨S_, .f32⟩
  | .hbm, ⟨7, _⟩ => ⟨S3x4096, .f32⟩
  | .hbm, ⟨8, _⟩ => ⟨S3x4096x1, .f32⟩
  | .hbm, ⟨9, _⟩ => ⟨S_, .f32⟩
  | .hbm, ⟨10, _⟩ => ⟨S3x4096x1, .f32⟩
  | .hbm, ⟨11, _⟩ => ⟨S3x4096x1, .f32⟩
  | .hbm, ⟨12, _⟩ => ⟨S_, .f32⟩
  | .hbm, ⟨13, _⟩ => ⟨S3x4096x1, .f32⟩
  | .hbm, ⟨14, _⟩ => ⟨S3x4096x1, .f32⟩
  | .hbm, ⟨15, _⟩ => ⟨S3x4096x1, .f32⟩
  | .hbm, ⟨16, _⟩ => ⟨S3x4096x1, .f32⟩
  | .hbm, ⟨17, _⟩ => ⟨S3x4096x1, .f32⟩
  | .hbm, ⟨18, _⟩ => ⟨S_, .f32⟩
  | .hbm, ⟨19, _⟩ => ⟨S3x4096x1, .f32⟩
  | .hbm, ⟨20, _⟩ => ⟨S3x4096x1, .f32⟩
  | .hbm, ⟨21, _⟩ => ⟨S_, .f32⟩
  | .hbm, ⟨22, _⟩ => ⟨S3x4096x1, .f32⟩
  | .hbm, ⟨23, _⟩ => ⟨S3x4096x1, .i1⟩
  | .hbm, ⟨24, _⟩ => ⟨S_, .f32⟩
  | .hbm, ⟨25, _⟩ => ⟨S3x4096x1, .f32⟩
  | .hbm, ⟨26, _⟩ => ⟨S3x4096x1, .i1⟩
  | .hbm, ⟨27, _⟩ => ⟨S3x4096x1, .i1⟩
  | .hbm, ⟨28, _⟩ => ⟨S_, .i32⟩
  | .hbm, ⟨29, _⟩ => ⟨S_, .f32⟩
  | .hbm, ⟨30, _⟩ => ⟨S3x4096x1, .f32⟩
  | .hbm, ⟨31, _⟩ => ⟨S3x4096x1, .f32⟩
  | .hbm, ⟨32, _⟩ => ⟨S_, .f32⟩
  | .hbm, ⟨33, _⟩ => ⟨S3x4096x1, .f32⟩
  | .hbm, ⟨34, _⟩ => ⟨S3x4096x1, .i1⟩
  | .hbm, ⟨35, _⟩ => ⟨S_, .i32⟩
  | .hbm, ⟨36, _⟩ => ⟨S_, .f32⟩
  | .hbm, ⟨37, _⟩ => ⟨S3x4096x1, .f32⟩
  | .hbm, ⟨38, _⟩ => ⟨S3x4096x1, .f32⟩
  | .hbm, ⟨39, _⟩ => ⟨S3x4096x1, .f32⟩
  | .hbm, ⟨40, _⟩ => ⟨S3x4096x1, .f32⟩
  | .hbm, ⟨41, _⟩ => ⟨S3x4096x1, .f32⟩
  | .hbm, ⟨42, _⟩ => ⟨S3x4096x7168, .f32⟩
  | .hbm, ⟨43, _⟩ => ⟨S3x4096x7168, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S3x4096x7168, .f32⟩
  | .hbm, ⟨48, _⟩ => ⟨S3x4096x7168, .f32⟩
  | .hbm, ⟨49, _⟩ => ⟨S_, .f32⟩
  | .hbm, ⟨50, _⟩ => ⟨S3x4096x7168, .f32⟩
  | .hbm, ⟨51, _⟩ => ⟨S3x4096x7168, .f32⟩
  | .hbm, ⟨52, _⟩ => ⟨S3x4096x7168, .fp8e4m3⟩
  | .hbm, ⟨53, _⟩ => ⟨S12288x7168, .fp8e4m3⟩
  | .hbm, ⟨54, _⟩ => ⟨S12288x7168, .f32⟩
  | .hbm, ⟨55, _⟩ => ⟨S3x4096x7168, .f32⟩
  | .hbm, ⟨56, _⟩ => ⟨S3x4096x7168, .f32⟩
  | .hbm, ⟨57, _⟩ => ⟨S3x4096x7168, .f32⟩
  | .hbm, ⟨58, _⟩ => ⟨S1x1x7168, .f32⟩
  | .hbm, ⟨59, _⟩ => ⟨S3x4096x7168, .f32⟩
  | .hbm, ⟨60, _⟩ => ⟨S3x4096x7168, .f32⟩
  | .hbm, ⟨61, _⟩ => ⟨S3x4096x7168, .f32⟩
  | .hbm, ⟨62, _⟩ => ⟨S3x4096x7168, .f32⟩
  | .hbm, ⟨63, _⟩ => ⟨S3x4096x7168, .bf16⟩
  | .local _ .vmem, ⟨0, _⟩ => ⟨S12288x7168, .fp8e4m3⟩
  | .local _ .vmem, ⟨1, _⟩ => ⟨S7168x7168, .fp8e4m3⟩
  | .local _ .vmem, ⟨2, _⟩ => ⟨S12288x7168, .f32⟩
  | _, _ => ⟨S3x4096x7168, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_call1_v0 : Ref sig .tc := ⟨.hbm, 36, rfl⟩
abbrev main_call1_v1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_cst_8 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S12288x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KLoop.lean ====
module

public import proofs.«01_k».proof.Proof.Gen.KernelIdeal.Loops
public import Idealize.ShloMosaic.Lib.Pipeline.ValueKit

/-! The quantising loop of the kernel body: what one trip of 32 rows stores, and that after the 32 trips the codes
    window and the scale window hold, row by row, the quantised rows of the block of `x`. -/

@[expose] public section

set_option maxRecDepth 16384

noncomputable section

namespace Cert.KernelIdeal.Gen
open Idealize.ShloMosaic Idealize.ShloMosaic.TcCoe Idealize.ShloMosaic.Tactic
variable {F : FTy → Type} [FloatOps F]

/-- The exponent the kernel's binary search finds for each row of a chunk, before its exceptions for zero and infinity. -/
def qExp (v : Vec F S32x7168 .bf16) : IVec S32x1 32 :=
  k0_pay31 (k0_pay27 (k0_pay16 v)) (k0_pay28 (k0_pay14 v) (k0_pay15 v) (k0_pay16 v) (k0_pay17 v)) (k0_pay29 (k0_pay16 v))
    (FloatOps.ofBits FTy.f32 0x47800000#32)

/-- The codes of one chunk of 32 rows. -/
def qCodes (v : Vec F S32x7168 .bf16) : FVec F S32x7168 .fp8e4m3 :=
  k0_pay3 (k0_pay5 v) (k0_pay6 v) (k0_pay30 (k0_pay7 v)) (qExp v) 0#32

/-- The scales of one chunk of 32 rows. -/
def qScale (v : Vec F S32x7168 .bf16) : FVec F S32x1 .f32 :=
  k0_pay2 (k0_pay6 v) (k0_pay30 (k0_pay7 v)) (qExp v) 0#32

/-- Chunk `k` of a row block: its rows `32 k … 32 k + 31`. -/
def chunk (x : Vec F S1024x7168 .bf16) (k : Fin 32) : Vec F S32x7168 .bf16 := fun y =>
  x (ix2 ⟨32 * k.val + (y 0).val, by have := (y 0).isLt; have : (y 0).val < 32 := this; have := k.isLt; omega⟩ (y 1))

/-- The chunk a row lies in. -/
def rowChunk (r : Fin 1024) : Fin 32 := ⟨r.val / 32, by have := r.isLt; omega⟩
/-- The place of a row in its chunk. -/
def rowIn (r : Fin 1024) : Fin 32 := ⟨r.val % 32, Nat.mod_lt _ (by decide)⟩

/-- The codes of a row block. -/
def codesBlk (x : Vec F S1024x7168 .bf16) : Vec F S1024x7168 .fp8e4m3 := fun y =>
  qCodes (chunk x (rowChunk (y 0))) (ix2 (rowIn (y 0)) (y 1))
/-- The scales of a row block. -/
def scaleBlk (x : Vec F S1024x7168 .bf16) : Vec F S1024x1 .f32 := fun y =>
  qScale (chunk x (rowChunk (y 0))) (ix2 (rowIn (y 0)) (y 1))

theorem trips_eq : k0_t1_loop.trips = 32 := by decide +kernel

/-- What a trip loads is its chunk. -/
theorem ld_chunk (i : grid0.Coords) (k0_h1 : k0_cond1 i = 1#1) (x : Vec F S1024x7168 .bf16) (k : Fin k0_t1_loop.trips) :
    View.ld x (Rect.unit (s := S1024x7168) (k0_off1 k) S32x7168.size (k0_off1_inb i k k0_h1)) = chunk x (k.cast trips_eq) := by
  funext y
  refine View.ld_unit_apply_of x _ _ _ y _ fun a => ?_
  have h := congrFun (k0_off1_eq k)
  fin_cases a
  · exact (congrArg (· + (y 0).val) (h 0)).symm
  · exact ((congrArg (· + (y 1).val) (h 1)).trans (Nat.zero_add _)).symm

section
variable (𝒱 : Variants) (c : Dev nD) (bd : Option 𝒱.V) (i : grid0.Coords) (arg2 : Memref sig .tc .vmem S1024x7168 .bf16) (harg2 : arg2.IsWhole) (arg3 : Memref sig .tc .vmem S7168x512 .fp8e4m3) (harg3 : arg3.IsWhole) (arg4 : Memref sig .tc .vmem S1x512 .f32) (harg4 : arg4.IsWhole) (arg5 : Memref sig .tc .vmem S1024x512 .bf16) (harg5 : arg5.IsWhole) (arg6 : Memref sig .tc .vmem S128x8x512 .bf16) (harg6 : arg6.IsWhole) (arg7 : Memref sig .tc .vmem S1024x7168 .fp8e4m3) (harg7 : arg7.IsWhole) (arg8 : Memref sig .tc .vmem S1024x1 .f32) (harg8 : arg8.IsWhole) (k0_h1 : k0_cond1 i = 1#1) (X_arg2 : BufTy.Contents (Elt F) arg2.view.ty)

/-- The codes one trip stores. -/
theorem trip_codes (k : Fin k0_t1_loop.trips) : (trip_k0_t1 (F := F) 𝒱 c bd i arg2 harg2 arg3 harg3 arg4 harg4 arg5 harg5 arg6 harg6 arg7 harg7 arg8 harg8 k0_h1 X_arg2 k).1
    = [⟨Rect.unit (s := S1024x7168) (k0_off1 k) S32x7168.size (k0_off1_inb i k k0_h1),
        qCodes (View.readAt (Elt F) arg2.view (Rect.unit (s := S1024x7168) (k0_off1 k) S32x7168.size (k0_off1_inb i k k0_h1)).toLoadRect X_arg2)⟩] := by
  unfold trip_k0_t1
  dsimp only
  sl_unfold_words
  rfl

/-- The scales one trip stores. -/
theorem trip_scale (k : Fin k0_t1_loop.trips) : (trip_k0_t1 (F := F) 𝒱 c bd i arg2 harg2 arg3 harg3 arg4 harg4 arg5 harg5 arg6 harg6 arg7 harg7 arg8 harg8 k0_h1 X_arg2 k).2.1
    = [⟨Rect.unit (s := S1024x1) (k0_off2 k) S32x1.size (k0_off2_inb i k k0_h1),
        qScale (View.readAt (Elt F) arg2.view (Rect.unit (s := S1024x7168) (k0_off1 k) S32x7168.size (k0_off1_inb i k k0_h1)).toLoadRect X_arg2)⟩] := by
  unfold trip_k0_t1
  dsimp only
  sl_unfold_words
  rfl

end

section
variable (𝒱 : Variants) (c : Dev nD) (bd : Option 𝒱.V) (i : grid0.Coords) (arg2 : Memref sig .tc .vmem S1024x7168 .bf16) (harg2 : arg2.IsWhole) (arg3 : Memref sig .tc .vmem S7168x512 .fp8e4m3) (harg3 : arg3.IsWhole) (arg4 : Memref sig .tc .vmem S1x512 .f32) (harg4 : arg4.IsWhole) (arg5 : Memref sig .tc .vmem S1024x512 .bf16) (harg5 : arg5.IsWhole) (arg6 : Memref sig .tc .vmem S128x8x512 .bf16) (harg6 : arg6.IsWhole) (arg7 : Memref sig .tc .vmem S1024x7168 .fp8e4m3) (harg7 : arg7.IsWhole) (arg8 : Memref sig .tc .vmem S1024x1 .f32) (harg8 : arg8.IsWhole) (k0_h1 : k0_cond1 i = 1#1)

/-- Every piece the first `k` trips store into the codes window is a block of the row block's codes; -/
theorem pieces_codes (x : Vec F S1024x7168 .bf16) (k : ℕ) (hk : k ≤ k0_t1_loop.trips) :
    ∀ p ∈ (pb_k0_t1 (F := F) 𝒱 c bd i arg2 harg2 arg3 harg3 arg4 harg4 arg5 harg5 arg6 harg6 arg7 harg7 arg8 harg8 k0_h1 (harg2.unread x) k).1, ∀ z : p.1.shape.Idx, p.2 z = codesBlk x (p.1.emb z) := by
  induction k with
  | zero => intro p hp; simp only [pb_k0_t1, List.not_mem_nil] at hp
  | succ k ih =>
    intro p hp
    rw [pb_k0_t1_succ (k := ⟨k, hk⟩)] at hp
    simp only [tripL_k0_t1, trip_codes, List.mem_append, List.mem_singleton] at hp
    rcases hp with hp | hp
    · subst hp
      intro z
      rw [View.readAt_eq_ld, harg2.read_unread, ld_chunk i k0_h1 x]
      have e0 : (((Rect.unit (s := S1024x7168) (k0_off1 ⟨k, hk⟩) S32x7168.size (k0_off1_inb i ⟨k, hk⟩ k0_h1)).emb z) 0).val = 32 * k + (z 0).val := by
        refine (Rect.idx_unit_val _ _ _ z 0).trans ?_
        exact congrArg (· + (z 0).val) (congrFun (k0_off1_eq ⟨k, hk⟩) 0)
      have e1 : (((Rect.unit (s := S1024x7168) (k0_off1 ⟨k, hk⟩) S32x7168.size (k0_off1_inb i ⟨k, hk⟩ k0_h1)).emb z) 1).val = (z 1).val := by
        refine (Rect.idx_unit_val _ _ _ z 1).trans ?_
        exact (congrArg (· + (z 1).val) (congrFun (k0_off1_eq ⟨k, hk⟩) 1)).trans (Nat.zero_add _)
      have hz : (z 0).val < 32 := (z 0).isLt
      have hc : rowChunk (((Rect.unit (s := S1024x7168) (k0_off1 ⟨k, hk⟩) S32x7168.size (k0_off1_inb i ⟨k, hk⟩ k0_h1)).emb z) 0) = (Fin.cast trips_eq ⟨k, hk⟩) :=
        Fin.ext (by show _ / 32 = k; rw [e0]; omega)
      unfold codesBlk
      rw [hc]
      refine congrArg (qCodes _) (funext fun a => Fin.ext ?_)
      fin_cases a
      · show (z 0).val = _ % 32; rw [e0]; omega
      · exact e1.symm
    · exact ih (Nat.le_of_succ_le hk) p hp

/-- every row below `32 k` lies in one; -/
theorem cover_codes (x : Vec F S1024x7168 .bf16) (k : ℕ) (hk : k ≤ k0_t1_loop.trips) (y : S1024x7168.Idx) (hy : (y 0).val < 32 * k) :
    ∃ p ∈ (pb_k0_t1 (F := F) 𝒱 c bd i arg2 harg2 arg3 harg3 arg4 harg4 arg5 harg5 arg6 harg6 arg7 harg7 arg8 harg8 k0_h1 (harg2.unread x) k).1, y ∈ p.1.set := by
  induction k with
  | zero => omega
  | succ k ih =>
    rw [pb_k0_t1_succ (k := ⟨k, hk⟩)]
    dsimp only
    by_cases h : (y 0).val < 32 * k
    · obtain ⟨p, hp, hm⟩ := ih (Nat.le_of_succ_le hk) h
      exact ⟨p, List.mem_append_right _ hp, hm⟩
    · rw [trip_codes]
      refine ⟨_, List.mem_append_left _ (List.mem_singleton.mpr rfl), ?_⟩
      rw [Rect.mem_set_unit, k0_off1_eq]
      intro a
      fin_cases a
      · exact ⟨by show 32 * k ≤ (y 0).val; omega, by show (y 0).val < 32 * k + 32; omega⟩
      · exact ⟨Nat.zero_le _, by show (y 1).val < 0 + 7168; have : (y 1).val < 7168 := (y 1).isLt; omega⟩

/-- so after the loop the codes window reads as the row block's codes, whatever it held. -/
theorem read_codes (x : Vec F S1024x7168 .bf16) (G : BufTy.Contents (Elt F) arg7.view.ty) (n : ℕ) (hn : n = k0_t1_loop.trips) :
    arg7.view.read (Elt F) (arg7.view.writes (Elt F) G (pb_k0_t1 (F := F) 𝒱 c bd i arg2 harg2 arg3 harg3 arg4 harg4 arg5 harg5 arg6 harg6 arg7 harg7 arg8 harg8 k0_h1 (harg2.unread x) n).1) = codesBlk x := by
  subst hn
  funext y
  exact View.read_writes_apply_of_pieces _ _ _ _ (pieces_codes _ c _ _ _ _ _ _ _ _ _ _ _ _ _ _ _ _ _ x _ le_rfl) y
    (cover_codes _ c _ _ _ _ _ _ _ _ _ _ _ _ _ _ _ _ _ x _ le_rfl y (by rw [trips_eq]; have : (y 0).val < 1024 := (y 0).isLt; omega))

/-- Every piece the first `k` trips store into the scale window is a block of the row block's scales; -/
theorem pieces_scale (x : Vec F S1024x7168 .bf16) (k : ℕ) (hk : k ≤ k0_t1_loop.trips) :
    ∀ p ∈ (pb_k0_t1 (F := F) 𝒱 c bd i arg2 harg2 arg3 harg3 arg4 harg4 arg5 harg5 arg6 harg6 arg7 harg7 arg8 harg8 k0_h1 (harg2.unread x) k).2, ∀ z : p.1.shape.Idx, p.2 z = scaleBlk x (p.1.emb z) := by
  induction k with
  | zero => intro p hp; simp only [pb_k0_t1, List.not_mem_nil] at hp
  | succ k ih =>
    intro p hp
    rw [pb_k0_t1_succ (k := ⟨k, hk⟩)] at hp
    simp only [tripL_k0_t1, trip_scale, List.mem_append, List.mem_singleton] at hp
    rcases hp with hp | hp
    · subst hp
      intro z
      rw [View.readAt_eq_ld, harg2.read_unread, ld_chunk i k0_h1 x]
      have e0 : (((Rect.unit (s := S1024x1) (k0_off2 ⟨k, hk⟩) S32x1.size (k0_off2_inb i ⟨k, hk⟩ k0_h1)).emb z) 0).val = 32 * k + (z 0).val := by
        refine (Rect.idx_unit_val _ _ _ z 0).trans ?_
        exact congrArg (· + (z 0).val) (congrFun (k0_off2_eq ⟨k, hk⟩) 0)
      have e1 : (((Rect.unit (s := S1024x1) (k0_off2 ⟨k, hk⟩) S32x1.size (k0_off2_inb i ⟨k, hk⟩ k0_h1)).emb z) 1).val = (z 1).val := by
        refine (Rect.idx_unit_val _ _ _ z 1).trans ?_
        exact (congrArg (· + (z 1).val) (congrFun (k0_off2_eq ⟨k, hk⟩) 1)).trans (Nat.zero_add _)
      have hz : (z 0).val < 32 := (z 0).isLt
      have hc : rowChunk (((Rect.unit (s := S1024x1) (k0_off2 ⟨k, hk⟩) S32x1.size (k0_off2_inb i ⟨k, hk⟩ k0_h1)).emb z) 0) = (Fin.cast trips_eq ⟨k, hk⟩) :=
        Fin.ext (by show _ / 32 = k; rw [e0]; omega)
      unfold scaleBlk
      rw [hc]
      refine congrArg (qScale _) (funext fun a => Fin.ext ?_)
      fin_cases a
      · show (z 0).val = _ % 32; rw [e0]; omega
      · exact e1.symm
    · exact ih (Nat.le_of_succ_le hk) p hp

/-- every row below `32 k` lies in one; -/
theorem cover_scale (x : Vec F S1024x7168 .bf16) (k : ℕ) (hk : k ≤ k0_t1_loop.trips) (y : S1024x1.Idx) (hy : (y 0).val < 32 * k) :
    ∃ p ∈ (pb_k0_t1 (F := F) 𝒱 c bd i arg2 harg2 arg3 harg3 arg4 harg4 arg5 harg5 arg6 harg6 arg7 harg7 arg8 harg8 k0_h1 (harg2.unread x) k).2, y ∈ p.1.set := by
  induction k with
  | zero => omega
  | succ k ih =>
    rw [pb_k0_t1_succ (k := ⟨k, hk⟩)]
    dsimp only
    by_cases h : (y 0).val < 32 * k
    · obtain ⟨p, hp, hm⟩ := ih (Nat.le_of_succ_le hk) h
      exact ⟨p, List.mem_append_right _ hp, hm⟩
    · rw [trip_scale]
      refine ⟨_, List.mem_append_left _ (List.mem_singleton.mpr rfl), ?_⟩
      rw [Rect.mem_set_unit, k0_off2_eq]
      intro a
      fin_cases a
      · exact ⟨by show 32 * k ≤ (y 0).val; omega, by show (y 0).val < 32 * k + 32; omega⟩
      · exact ⟨Nat.zero_le _, by show (y 1).val < 0 + 1; have : (y 1).val < 1 := (y 1).isLt; omega⟩

/-- so after the loop the scale window reads as the row block's scales, whatever it held. -/
theorem read_scale (x : Vec F S1024x7168 .bf16) (G : BufTy.Contents (Elt F) arg8.view.ty) (n : ℕ) (hn : n = k0_t1_loop.trips) :
    arg8.view.read (Elt F) (arg8.view.writes (Elt F) G (pb_k0_t1 (F := F) 𝒱 c bd i arg2 harg2 arg3 harg3 arg4 harg4 arg5 harg5 arg6 harg6 arg7 harg7 arg8 harg8 k0_h1 (harg2.unread x) n).2) = scaleBlk x := by
  subst hn
  funext y
  exact View.read_writes_apply_of_pieces _ _ _ _ (pieces_scale _ c _ _ _ _ _ _ _ _ _ _ _ _ _ _ _ _ _ x _ le_rfl) y
    (cover_scale _ c _ _ _ _ _ _ _ _ _ _ _ _ _ _ _ _ _ x _ le_rfl y (by rw [trips_eq]; have : (y 0).val < 1024 := (y 0).isLt; omega))

end

end Cert.KernelIdeal.Gen

end
-- ==== Proof.KRunA.lean ====
module

public import proofs.«01_k».proof.Proof.KLoop
public import proofs.«01_k».proof.Proof.Gen.KernelIdeal.Frame

/-! The kernel body run at a point whose second coordinate is zero: it quantises its row block and multiplies. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store of a whole window, read back, is what was stored. -/
theorem read_store_whole {κ : Kind} {sp : Space} {s : Shape} {e : EltTy} (v : View sig κ sp s e) (f : v.ty.Contents (Elt F)) {off : Fin s.rank → ℕ}
    (h : ∀ a, off a = 0) (inb : ∀ a, off a + s.size a ≤ s.size a) (w : s.Idx → Elt F e) :
    v.read (Elt F) (v.writes (Elt F) f [⟨Rect.unit off s.size inb, w⟩]) = w := by
  funext y
  refine View.read_writes_cons_hit_of_coords v f (Rect.unit off s.size inb) w [] y y fun a => ?_
  show (y a).val = off a + 1 * (y a).val
  rw [h a]; omega

theorem zero2 : ∀ a : Fin 2, (![0, 0] : Fin 2 → ℕ) a = 0 := by decide
theorem zero3 : ∀ a : Fin 3, (![0, 0, 0] : Fin 3 → ℕ) a = 0 := by decide

set_option maxHeartbeats 1000000 in
/-- At such a point, whatever the three output windows hold, the body leaves in them the output block, the codes of the row
    block and its scales. -/
theorem kernelRun0_A (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .vmem S1x512 .f32) (harg4 : arg4.IsWhole) (arg5 : Memref sig .tc .vmem S1024x512 .bf16) (harg5 : arg5.IsWhole) (arg6 : Memref sig .tc .vmem S128x8x512 .bf16) (harg6 : arg6.IsWhole) (arg7 : Memref sig .tc .vmem S1024x7168 .fp8e4m3) (harg7 : arg7.IsWhole) (arg8 : Memref sig .tc .vmem S1024x1 .f32) (harg8 : arg8.IsWhole) (hc0 : k0_cond1 i = 1#1)
    (x0 : Vec F S1024x7168 .bf16) (x1 : Vec F S7168x512 .fp8e4m3) (x2 : Vec F S1x512 .f32) (x3 : Vec F S1024x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 (codesBlk x0) x1 (scaleBlk x0) x2 x3) ∗ owns (c : Thread nD τ) arg7 fullShare (codesBlk x0) ∗ owns (c : Thread nD τ) arg8 fullShare (scaleBlk x0)) -∗ K ⟨⟩))
          ⊢ wp frame (wpE (defs₀ (F := F)) Variants.none c none) E (cc0__body i arg2 harg2 arg3 harg3 arg4 harg4 arg5 harg5 arg6 harg6 arg7 harg7 arg8 harg8) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (read_store_whole _ _ zero3 _ _).trans ?_
      sl_unfold_words
      simp only [View.readAt_eq_ld, harg3.read_unread, harg4.read_unread, harg5.read_unread, View.ld_unit_lit (S := S1024x7168) _ _ zero2, View.ld_unit_lit (S := S7168x512) _ _ zero2,
        View.ld_unit_lit (S := S1024x1) _ _ zero2, View.ld_unit_lit (S := S1x512) _ _ zero2, View.ld_unit_lit (S := S1024x512) _ _ zero2]
      rw [read_codes, read_scale] <;> rfl
    isplitl [H5]
    · iexists _; isplitr; swap; · iexact H5
      ipureintro; exact read_codes _ c _ _ _ _ _ _ _ _ _ _ _ _ _ _ _ _ _ x0 f5 _ rfl
    iexists _; isplitr; swap; · iexact H6
    ipureintro; exact read_scale _ c _ _ _ _ _ _ _ _ _ _ _ _ _ _ _ _ _ x0 f6 _ rfl

end Cert.KernelIdeal.Gen

end
-- ==== Proof.KRunB.lean ====
module

public import proofs.«01_k».proof.Proof.KRunA

/-! The kernel body run at any other point: it multiplies the codes the windows already hold. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At such a point the body reads the codes and the scales it finds and stores the output block only. -/
theorem kernelRun0_B (c : Dev nD) (i : grid0.Coords) (arg2 : Memref sig .tc .vmem S1024x7168 .bf16) (harg2 : arg2.IsWhole) (arg3 : Memref sig .tc .vmem S7168x512 .fp8e4m3) (harg3 : arg3.IsWhole) (arg4 : Memref sig .tc .vmem S1x512 .f32) (harg4 : arg4.IsWhole) (arg5 : Memref sig .tc .vmem S1024x512 .bf16) (harg5 : arg5.IsWhole) (arg6 : Memref sig .tc .vmem S128x8x512 .bf16) (harg6 : arg6.IsWhole) (arg7 : Memref sig .tc .vmem S1024x7168 .fp8e4m3) (harg7 : arg7.IsWhole) (arg8 : Memref sig .tc .vmem S1024x1 .f32) (harg8 : arg8.IsWhole) (hc0 : ¬k0_cond1 i = 1#1)
    (x0 : Vec F S1024x7168 .bf16) (x1 : Vec F S7168x512 .fp8e4m3) (x2 : Vec F S1x512 .f32) (x3 : Vec F S1024x512 .bf16) (x5 : Vec F S1024x7168 .fp8e4m3) (x6 : Vec F S1024x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 x5 x1 x6 x2 x3) ∗ owns (c : Thread nD τ) arg7 fullShare x5 ∗ owns (c : Thread nD τ) arg8 fullShare x6) -∗ K ⟨⟩))
          ⊢ wp frame (wpE (defs₀ (F := F)) Variants.none c none) E (cc0__body i arg2 harg2 arg3 harg3 arg4 harg4 arg5 harg5 arg6 harg6 arg7 harg7 arg8 harg8) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (read_store_whole _ _ zero3 _ _).trans ?_
      simp only [View.readAt_eq_ld, harg3.read_unread, harg4.read_unread, harg5.read_unread, harg7.read_unread, harg8.read_unread, View.ld_unit_lit (S := S1024x7168) _ _ zero2, View.ld_unit_lit (S := S7168x512) _ _ zero2,
        View.ld_unit_lit (S := S1024x1) _ _ zero2, View.ld_unit_lit (S := S1x512) _ _ zero2, View.ld_unit_lit (S := S1024x512) _ _ zero2]
    isplitl [H5]
    · iexists _; isplitr; swap; · iexact H5
      ipureintro; exact harg7.read_unread _
    iexists _; isplitr; swap; · iexact H6
    ipureintro; exact harg8.read_unread _

end Cert.KernelIdeal.Gen

end
-- ==== Proof.KBody.lean ====
module

public import proofs.«01_k».proof.Proof.KRunB
public import proofs.«01_k».proof.Proof.Gen.KernelIdeal.Frame
public import Idealize.ShloMosaic.Lib.Claim

/-! What the kernel's staging buffers hold after the body at each grid point, the body obligation, and the run of `@main`.
    Point `t` is row block `t / 14`, column block `t % 14`. The codes and scales windows are stored at column block 0 and
    kept through the other thirteen. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row block of point `t`: where its rows were quantised. -/
def start (t : Fin cfg0.N) : Fin cfg0.N := ⟨t.val / 14 * 14, Nat.lt_of_le_of_lt (Nat.div_mul_le_self _ _) t.isLt⟩

theorem start_of (t : Fin cfg0.N) (h : t.val % 14 = 0) : start t = t := Fin.ext (by show t.val / 14 * 14 = t.val; omega)

theorem start_pred (t : Fin cfg0.N) (h : t.val % 14 ≠ 0) (hp : t.val - 1 < cfg0.N) : start ⟨t.val - 1, hp⟩ = start t :=
  Fin.ext (by show (t.val - 1) / 14 * 14 = t.val / 14 * 14; omega)

/-- The proof data: each input's buffer keeps its block; the output's holds the block computed from the codes and scales of
    the row block; the codes' and the scales' hold those of the row block at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (codesBlk (iblk m c 0 (start t))) (iblk m c 1 t) (scaleBlk (iblk m c 0 (start t))) (iblk m c 2 t) (iblk m c 3 t)
    | ⟨5, _⟩ => codesBlk (iblk m c 0 (start t))
    | ⟨6, _⟩ => scaleBlk (iblk m c 0 (start t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = k0_pay4 (codesBlk (iblk m c 0 (start t))) (iblk m c 1 t) (scaleBlk (iblk m c 0 (start t))) (iblk m c 2 t) (iblk m c 3 t) := by
  dsimp only [dats]
theorem after0_5 (c : Dev nD) (t : Fin cfg0.N) : (dats m 0 c).after 5 t = codesBlk (iblk m c 0 (start t)) := by dsimp only [dats]
theorem after0_6 (c : Dev nD) (t : Fin cfg0.N) : (dats m 0 c).after 6 t = scaleBlk (iblk m c 0 (start t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body quantises at the points of column block 0. -/
theorem hcond0_0 : ∀ t : Fin cfg0.N, k0_cond1 (grid0.coords t) = 1#1 ↔ t.val % 14 = 0 :=
  (fun t => by
    have ht : t.val < 168 := Nat.lt_of_lt_of_eq t.isLt N_0
    have e0 : (grid0.coords t 0).val = t.val / 14 % 12 := Pipeline.Grid.coords_val t 0 (by decide) rfl
    have e1 : (grid0.coords t 1).val = t.val / 1 % 14 := Pipeline.Grid.coords_val t 1 (by decide) rfl
    simp only [k0_cond1, e0, e1]
    word_cmp
   : ∀ t : Fin grid0.N, k0_cond1 (grid0.coords t) = 1#1 ↔ t.val % 14 = 0)

theorem live_of {t : Fin cfg0.N} (h : t.val % 14 = 0) : (!(k0_cond1 (grid0.coords t) == 1#1)) = false := by
  rw [(hcond0_0 t).mpr h]; rfl
theorem idle_of {t : Fin cfg0.N} (h : t.val % 14 ≠ 0) : (!(k0_cond1 (grid0.coords t) == 1#1)) = true := by
  rw [beq_false_of_ne fun e => h ((hcond0_0 t).mp e)]; rfl

/-- Where the body does not quantise, window 5 still holds what the first point of the row block left. -/
theorem before0_5 (c : Dev nD) : ∀ (n : ℕ) (hn : n < cfg0.N), n % 14 ≠ 0 → ∀ d,
    (dats m 0 c).before 5 ⟨n, hn⟩ d = codesBlk (iblk m c 0 (start ⟨n, hn⟩))
  | 0, _, h, _ => absurd rfl h
  | n + 1, hn, h, d => by
    have hp : n < cfg0.N := Nat.lt_of_succ_lt hn
    have hs : start ⟨n, hp⟩ = start ⟨n + 1, hn⟩ := start_pred ⟨n + 1, hn⟩ h hp
    have hfl : (cfg0.win 5).flush ⟨n, hp⟩ = false :=
      Bool.eq_false_iff.mpr fun e => by have := (flush0_5 ⟨n, hp⟩).mp e; dsimp only at this; omega
    rw [(dats m 0 c).before_of_pos 5 ⟨n + 1, hn⟩ (Nat.succ_ne_zero n) ((cfg0.win 5).fetch_out rfl _)]
    show (if (cfg0.win 5).flush ⟨n, hp⟩ then d else (dats m 0 c).left 5 ⟨n, hp⟩ d) = _
    rw [hfl, if_neg Bool.false_ne_true]
    unfold Dat.left
    by_cases h0 : n % 14 = 0
    · rw [show cfg0.idle 5 (cfg0.grid.coords ⟨n, hp⟩) = false from live_of (t := ⟨n, hp⟩) h0]
      show (dats m 0 c).after 5 ⟨n, hp⟩ = _
      rw [after0_5, hs]
    · rw [show cfg0.idle 5 (cfg0.grid.coords ⟨n, hp⟩) = true from idle_of (t := ⟨n, hp⟩) h0]
      show (dats m 0 c).before 5 ⟨n, hp⟩ d = _
      rw [before0_5 c n hp h0 d, hs]

/-- What the obligation asks of window 5 is met by the row block's codes at every point. -/
theorem leaves0_5 (c : Dev nD) (t : Fin cfg0.N) :
    owns (c : Thread nD τ) ((cfg0.win 5).stage (cfg0.slots t 5)) fullShare (codesBlk (iblk m c 0 (start t))) ⊢ ((dats m 0 c).leavesExact 5 t : sProp 𝕄) := by
  unfold Dat.leavesExact
  by_cases h0 : t.val % 14 = 0
  · rw [show cfg0.idle 5 (cfg0.grid.coords t) = false from live_of h0]
    dsimp only
    rw [after0_5]
  · rw [show cfg0.idle 5 (cfg0.grid.coords t) = true from idle_of h0]
    by_cases hf : t.val % 14 = 13
    · rw [(flush0_5 t).mpr hf]
      dsimp only
      rw [after0_5]
    · rw [show (cfg0.win 5).flush t = false from Bool.eq_false_iff.mpr fun e => hf ((flush0_5 t).mp e)]
      dsimp only
      iintro H
      iexists ((dats m 0 c).after 5 t)
      rw [before0_5 m c t.val t.isLt h0]
      iexact H

/-- Where the body does not quantise, window 6 still holds what the first point of the row block left. -/
theorem before0_6 (c : Dev nD) : ∀ (n : ℕ) (hn : n < cfg0.N), n % 14 ≠ 0 → ∀ d,
    (dats m 0 c).before 6 ⟨n, hn⟩ d = scaleBlk (iblk m c 0 (start ⟨n, hn⟩))
  | 0, _, h, _ => absurd rfl h
  | n + 1, hn, h, d => by
    have hp : n < cfg0.N := Nat.lt_of_succ_lt hn
    have hs : start ⟨n, hp⟩ = start ⟨n + 1, hn⟩ := start_pred ⟨n + 1, hn⟩ h hp
    have hfl : (cfg0.win 6).flush ⟨n, hp⟩ = false :=
      Bool.eq_false_iff.mpr fun e => by have := (flush0_6 ⟨n, hp⟩).mp e; dsimp only at this; omega
    rw [(dats m 0 c).before_of_pos 6 ⟨n + 1, hn⟩ (Nat.succ_ne_zero n) ((cfg0.win 6).fetch_out rfl _)]
    show (if (cfg0.win 6).flush ⟨n, hp⟩ then d else (dats m 0 c).left 6 ⟨n, hp⟩ d) = _
    rw [hfl, if_neg Bool.false_ne_true]
    unfold Dat.left
    by_cases h0 : n % 14 = 0
    · rw [show cfg0.idle 6 (cfg0.grid.coords ⟨n, hp⟩) = false from live_of (t := ⟨n, hp⟩) h0]
      show (dats m 0 c).after 6 ⟨n, hp⟩ = _
      rw [after0_6, hs]
    · rw [show cfg0.idle 6 (cfg0.grid.coords ⟨n, hp⟩) = true from idle_of (t := ⟨n, hp⟩) h0]
      show (dats m 0 c).before 6 ⟨n, hp⟩ d = _
      rw [before0_6 c n hp h0 d, hs]

/-- What the obligation asks of window 6 is met by the row block's scales at every point. -/
theorem leaves0_6 (c : Dev nD) (t : Fin cfg0.N) :
    owns (c : Thread nD τ) ((cfg0.win 6).stage (cfg0.slots t 6)) fullShare (scaleBlk (iblk m c 0 (start t))) ⊢ ((dats m 0 c).leavesExact 6 t : sProp 𝕄) := by
  unfold Dat.leavesExact
  by_cases h0 : t.val % 14 = 0
  · rw [show cfg0.idle 6 (cfg0.grid.coords t) = false from live_of h0]
    dsimp only
    rw [after0_6]
  · rw [show cfg0.idle 6 (cfg0.grid.coords t) = true from idle_of h0]
    by_cases hf : t.val % 14 = 13
    · rw [(flush0_6 t).mpr hf]
      dsimp only
      rw [after0_6]
    · rw [show (cfg0.win 6).flush t = false from Bool.eq_false_iff.mpr fun e => hf ((flush0_6 t).mp e)]
      dsimp only
      iintro H
      iexists ((dats m 0 c).after 6 t)
      rw [before0_6 m c t.val t.isLt h0]
      iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare ((dats m 0 c).after 0 t) from rfl, after0_0]
  rw [show (dats m 0 c).leavesExact 1 t = owns (c : Thread nD τ) (st0_1 t) fullShare ((dats m 0 c).after 1 t) from rfl, after0_1]
  rw [show (dats m 0 c).leavesExact 2 t = owns (c : Thread nD τ) (st0_2 t) fullShare ((dats m 0 c).after 2 t) from rfl, after0_2]
  rw [show (dats m 0 c).leavesExact 3 t = owns (c : Thread nD τ) (st0_3 t) fullShare ((dats m 0 c).after 3 t) from rfl, after0_3]
  rw [show (dats m 0 c).leavesExact 4 t = owns (c : Thread nD τ) (st0_4 t) fullShare ((dats m 0 c).after 4 t) from rfl, after0_4]
  by_cases h0 : t.val % 14 = 0
  · have e5 := leaves0_5 m c t
    have e6 := leaves0_6 m c t
    rw [start_of t h0] at e5 e6 ⊢
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply e5; iexact H5
    iapply e6; iexact H6
  · have b5 : ∀ d, (dats m 0 c).before 5 t d = codesBlk (iblk m c 0 (start t)) := before0_5 m c t.val t.isLt h0
    have b6 : ∀ d, (dats m 0 c).before 6 t d = scaleBlk (iblk m c 0 (start t)) := before0_6 m c t.val t.isLt h0
    simp only [b5, b6]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t)
      (codesBlk (iblk m c 0 (start t))) (scaleBlk (iblk m c 0 (start t)))) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c t); iexact H5
    iapply (leaves0_6 m c t); iexact H6

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run of `@main`: every weakly fair execution terminates with each array at what the points wrote back, every other
    buffer at what the host lines after the region make of that, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame claim at any `F`: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.KBits.lean ====
module

public import proofs.«01_k».proof.Defs
public import proofs.«01_k».proof.Proof.KBody
public import proofs.«01_k».proof.Proof.Gen.Kernel.Frame

/-! The kernel as compiled and its idealization have the same text, so the frame proved of the one, at any floats, is the
    frame of the other at the bit-exact floats. -/

@[expose] public section

noncomputable section

namespace Cert.Proof

open Idealize.ShloMosaic Idealize.ShloMosaic.TcCoe Idealize.SL.Sem Cert.Kernel.Gen

theorem body_eq : HEq (Cert.Kernel.cc0__body (F := Bits)) (Cert.KernelIdeal.cc0__body (F := Bits)) := HEq.rfl

theorem defs₀_eq : HEq (Cert.Kernel.defs₀ (F := Bits)) (Cert.KernelIdeal.defs₀ (F := Bits)) := by
  apply heq_of_eq
  refine congrArg Defs.onTc (funext fun ℓ => funext fun a => ?_)
  match ℓ, a with
  | 0, (t, s) =>
    exact congrFun (congrFun (congrFun (congrFun (congrFun (congrFun (congrFun (congrFun (congrFun (congrFun (congrFun (congrFun
      (congrFun (congrFun (congrFun (eq_of_heq body_eq) _) _) _) _) _) _) _) _) _) _) _) _) _) _) _
  | ⟨_ + 1, h⟩, _ => exact absurd h (Nat.not_lt.2 (Nat.le_add_left _ _))

theorem defs_eq : HEq (Cert.Kernel.defs (F := Bits)) (Cert.KernelIdeal.defs (F := Bits)) :=
  heq_of_eq (congrArg (Pipeline.defs Cert.Kernel.pcfgs) (eq_of_heq defs₀_eq))

theorem main_eq : HEq (Cert.Kernel.main (F := Bits)) (Cert.KernelIdeal.main (F := Bits)) := HEq.rfl

theorem kernel_frame : Cert.quiescent_Kernel (hKernel := Cert.Kernel.Gen.facts) := fun m g _ => by
  rw [eq_of_heq defs_eq]
  exact Cert.KernelIdeal.Gen.frame (F := Bits) m g

end Cert.Proof

end
-- ==== Proof.Ladder.lean ====
module

public import Idealize.ShloMosaic.PureOps.Ideal
public import Mathlib.Analysis.SpecialFunctions.Log.Basic
public import Mathlib.Tactic.Linarith
public import Mathlib.Tactic.FieldSimp
public import Mathlib.Tactic.Positivity

/-! The kernel's way to the exponent of a positive number: compare with a power of two and rescale, seven times down from
    above and seven times up from below. On any real in `[2^-127, 2^128)` it ends at the exponent, the floor of the logarithm to base 2. And the
    words that are powers of two. -/

@[expose] public section

noncomputable section

namespace Cert.Quant

open Idealize.ShloMosaic

/-- One step that brings a large number down: where it is at least `P`, multiply by `Q` and add `b` to the exponent. -/
def up (P Q : EReal) (b : BitVec 32) (s : EReal × BitVec 32) : EReal × BitVec 32 :=
  (Scalar.select (Ideal.cmp .oge s.1 P) (s.1 * Q) s.1, Scalar.select (Ideal.cmp .oge s.1 P) (IntOp.addi s.2 b) s.2)

/-- One step that brings a small number up: where it is below `P`, multiply by `Q` and take `b` from the exponent. -/
def dn (P Q : EReal) (b : BitVec 32) (s : EReal × BitVec 32) : EReal × BitVec 32 :=
  (Scalar.select (Ideal.cmp .olt s.1 P) (s.1 * Q) s.1, Scalar.select (Ideal.cmp .olt s.1 P) (IntOp.subi s.2 b) s.2)

/-- The pair holds a mantissa in `[2^lo, 2^hi)` and an exponent which together are `a`. -/
def Holds (lo hi : ℤ) (a : ℝ) (s : EReal × BitVec 32) : Prop :=
  ∃ (r : ℝ) (n : ℤ), s.1 = (r : EReal) ∧ s.2 = BitVec.ofInt 32 n ∧ r * (2 : ℝ) ^ n = a ∧ (2 : ℝ) ^ lo ≤ r ∧ r < (2 : ℝ) ^ hi

/-- A power of two as an extended real. -/
def two (n : ℤ) : EReal := (((2 : ℝ) ^ n : ℝ) : EReal)

theorem select_ofBool {α : Type} (p : Prop) [Decidable p] (x y : α) :
    Scalar.select (BitVec.ofBool (decide p)) x y = if p then x else y := by
  by_cases h : p <;> simp [Scalar.select, h]

theorem up_holds (b : ℤ) {lo : ℤ} (hlo : lo ≤ 0) {a : ℝ} {s : EReal × BitVec 32} (h : Holds lo (2 * b) a s) :
    Holds lo b a (up (two b) (two (-b)) (BitVec.ofInt 32 b) s) := by
  obtain ⟨r, n, h1, h2, h3, h4, h5⟩ := h
  have hpos : (0 : ℝ) < 2 ^ b := by positivity
  unfold up Ideal.cmp
  simp only [select_ofBool, h1, h2, two, EReal.coe_le_coe_iff]
  by_cases hb : (2 : ℝ) ^ b ≤ r
  · simp only [if_pos hb]
    refine ⟨r * 2 ^ (-b), n + b, by norm_cast, ?_, ?_, ?_, ?_⟩
    · simp [IntOp.addi, BitVec.ofInt_add]
    · rw [mul_assoc, ← zpow_add₀ two_ne_zero, show -b + (n + b) = n by ring, h3]
    · refine (zpow_le_zpow_right₀ one_le_two hlo).trans ?_
      rw [zpow_zero, zpow_neg, ← div_eq_mul_inv, le_div_iff₀ hpos, one_mul]; exact hb
    · rw [zpow_neg, ← div_eq_mul_inv, div_lt_iff₀ hpos, ← zpow_add₀ two_ne_zero, ← two_mul]; exact h5
  · simp only [if_neg hb]
    exact ⟨r, n, rfl, rfl, h3, h4, not_le.mp hb⟩

theorem dn_holds (b : ℤ) {a : ℝ} {s : EReal × BitVec 32} (h : Holds (1 - 2 * b) 1 a s) :
    Holds (1 - b) 1 a (dn (two (1 - b)) (two b) (BitVec.ofInt 32 b) s) := by
  obtain ⟨r, n, h1, h2, h3, h4, h5⟩ := h
  have hpos : (0 : ℝ) < 2 ^ b := by positivity
  unfold dn Ideal.cmp
  simp only [select_ofBool, h1, h2, two, EReal.coe_lt_coe_iff]
  by_cases hb : r < (2 : ℝ) ^ (1 - b)
  · simp only [if_pos hb]
    refine ⟨r * 2 ^ b, n - b, by norm_cast, ?_, ?_, ?_, ?_⟩
    · show BitVec.ofInt 32 n - BitVec.ofInt 32 b = _
      rw [sub_eq_add_neg n b, BitVec.ofInt_add, BitVec.ofInt_neg, BitVec.sub_eq_add_neg]
    · rw [mul_assoc, ← zpow_add₀ two_ne_zero, show b + (n - b) = n by ring, h3]
    · calc (2 : ℝ) ^ (1 - b) = 2 ^ (1 - 2 * b) * 2 ^ b := by rw [← zpow_add₀ two_ne_zero]; congr 1; ring
        _ ≤ r * 2 ^ b := mul_le_mul_of_nonneg_right h4 hpos.le
    · calc r * 2 ^ b < 2 ^ (1 - b) * 2 ^ b := mul_lt_mul_of_pos_right hb hpos
        _ = 2 ^ (1 : ℤ) := by rw [← zpow_add₀ two_ne_zero]; congr 1; ring
  · simp only [if_neg hb]
    exact ⟨r, n, rfl, rfl, h3, not_lt.mp hb, h5⟩

/-- A positive pattern with exponent field `E` and no significand bits is `2 ^ (E - 127)`. -/
theorem ieee_two (w : BitVec 32) (E : ℕ) (h0 : 1 ≤ E) (h1 : E < 255) (f1 : (w.extractLsb' 23 8).toNat = E)
    (f2 : (w.extractLsb' 0 23).toNat = 0) (f3 : (w.extractLsb' 31 1 == 1#1) = false) : Ideal.ieee 8 23 w = two ((E : ℤ) - 127) := by
  unfold Ideal.ieee
  simp only [f1, f2, show 8 + 23 = 31 from rfl, f3]
  rw [if_neg (by omega), if_neg (by omega)]
  unfold two
  refine congrArg _ ?_
  have : ((E : ℤ) - (2 ^ (8 - 1) - 1) - (23 : ℕ)) = ((E : ℤ) - 127) - 23 := by norm_num
  rw [this, zpow_sub₀ two_ne_zero ((E : ℤ) - 127) 23]
  norm_num
  ring

/-- What the fields of such a word are. -/
theorem fields : ∀ k : Fin 255, ((BitVec.ofNat 32 k.val <<< 23).extractLsb' 23 8).toNat = k.val
    ∧ ((BitVec.ofNat 32 k.val <<< 23).extractLsb' 0 23).toNat = 0 ∧ ((BitVec.ofNat 32 k.val <<< 23).extractLsb' 31 1 == 1#1) = false := by
  decide +kernel

/-- The word with exponent field `n + 127` and nothing else is `2 ^ n`. -/
theorem ofBits_two (n : ℤ) (h0 : -126 ≤ n) (h1 : n ≤ 127) :
    Ideal.ofBits .f32 ((BitVec.ofInt 32 n + 127#32) <<< 23) = two n := by
  obtain ⟨E, hE⟩ : ∃ E : ℕ, n = (E : ℤ) - 127 := ⟨(n + 127).toNat, by omega⟩
  have e1 : (BitVec.ofInt 32 n + 127#32) = BitVec.ofNat 32 E := by
    rw [show (127#32 : BitVec 32) = BitVec.ofInt 32 127 from by decide, ← BitVec.ofInt_add, hE, sub_add_cancel, BitVec.ofInt_natCast]
  rw [e1, hE]
  exact ieee_two _ E (by omega) (by omega) (fields ⟨E, by omega⟩).1 (fields ⟨E, by omega⟩).2.1 (fields ⟨E, by omega⟩).2.2

/-- The exponent of a positive real. -/
def lg (a : ℝ) : ℤ := ⌊Real.log a / Real.log 2⌋

theorem lg_eq {a : ℝ} {n : ℤ} (h0 : (2 : ℝ) ^ n ≤ a) (h1 : a < (2 : ℝ) ^ (n + 1)) : lg a = n := by
  have hp : (0 : ℝ) < 2 ^ n := by positivity
  have hl : 0 < Real.log 2 := Real.log_pos one_lt_two
  rw [lg, Int.floor_eq_iff]
  constructor
  · rw [le_div_iff₀ hl, ← Real.log_zpow]
    exact Real.log_le_log hp h0
  · rw [div_lt_iff₀ hl, show ((n : ℝ) + 1) = ((n + 1 : ℤ) : ℝ) by push_cast; ring, ← Real.log_zpow]
    exact Real.log_lt_log (lt_of_lt_of_le hp h0) h1

theorem le_lg {a : ℝ} {n : ℤ} (h0 : (2 : ℝ) ^ n ≤ a) : n ≤ lg a := by
  have hl : 0 < Real.log 2 := Real.log_pos one_lt_two
  rw [lg, Int.le_floor, le_div_iff₀ hl, ← Real.log_zpow]
  exact Real.log_le_log (by positivity) h0

theorem lg_lt {a : ℝ} {n : ℤ} (h : 0 < a) (h1 : a < (2 : ℝ) ^ n) : lg a < n := by
  have hl : 0 < Real.log 2 := Real.log_pos one_lt_two
  rw [lg, Int.floor_lt, div_lt_iff₀ hl, ← Real.log_zpow]
  exact Real.log_lt_log h h1

/-- The seven steps of each kind. -/
def ladder (a : EReal) : EReal × BitVec 32 :=
  dn (two 0) (two 1) 1#32 <| dn (two (-1)) (two 2) 2#32 <| dn (two (-3)) (two 4) 4#32 <| dn (two (-7)) (two 8) 8#32 <|
  dn (two (-15)) (two 16) 16#32 <| dn (two (-31)) (two 32) 32#32 <| dn (two (-63)) (two 64) 64#32 <|
  up (two 1) (two (-1)) 1#32 <| up (two 2) (two (-2)) 2#32 <| up (two 4) (two (-4)) 4#32 <| up (two 8) (two (-8)) 8#32 <|
  up (two 16) (two (-16)) 16#32 <| up (two 32) (two (-32)) 32#32 <| up (two 64) (two (-64)) 64#32 (a, 0#32)

/-- The ladder ends at the exponent. -/
theorem ladder_eq {a : ℝ} (h0 : (2 : ℝ) ^ (-127 : ℤ) ≤ a) (h1 : a < (2 : ℝ) ^ (128 : ℤ)) :
    (ladder (a : EReal)).2 = BitVec.ofInt 32 (lg a) := by
  have s0 : Holds (-127) (2 * 64) a ((a : EReal), 0#32) := ⟨a, 0, rfl, rfl, by simp, h0, h1⟩
  have hl : (-127 : ℤ) ≤ 0 := by norm_num
  have s : Holds (1 - 1) 1 a (ladder (a : EReal)) :=
    dn_holds 1 (dn_holds 2 (dn_holds 4 (dn_holds 8 (dn_holds 16 (dn_holds 32 (dn_holds 64 (up_holds 1 hl (up_holds 2 hl (up_holds 4 hl
      (up_holds 8 hl (up_holds 16 hl (up_holds 32 hl (up_holds 64 hl s0)))))))))))))
  obtain ⟨r, n, _, h2, h3, h4, h5⟩ := s
  rw [sub_self, zpow_zero] at h4
  rw [zpow_one] at h5
  have hn : (0 : ℝ) < 2 ^ n := by positivity
  rw [h2, lg_eq (n := n) (by rw [← h3]; nlinarith) (by rw [← h3, zpow_add_one₀ two_ne_zero]; nlinarith)]

end Cert.Quant

end
-- ==== Proof.Quant.lean ====
module

public import proofs.«01_k».proof.Proof.Ladder

/-! The quantiser of one row as real arithmetic: from the row's greatest magnitude `A`, the exponent, the scale and the
    codes; and the rows for which the kernel's bounded words can hold them. -/

@[expose] public section

noncomputable section

namespace Cert.Quant

open Idealize.ShloMosaic

/-- The f32 nearest 1/448, which both programs multiply by. -/
def inv448 : EReal := Ideal.ofBits .f32 0x3B124925#32

/-- A quotient with an exponent: at least the least normal f32, and not infinite. -/
abbrev Normal (a : EReal) : Prop := Ideal.ofBits .f32 0x00800000#32 ≤ a ∧ a < ⊤

/-- The exponent `e` of a row: the least with `A / 448 < 2 ^ e`, and 0 where the quotient is not normal. -/
def expo (A : EReal) : ℤ := if Normal (A * inv448) then lg (A * inv448).toReal + 1 else 0

/-- One code: the element over the scale, cut to the format's range. -/
def code (A x : EReal) : EReal :=
  min (Ideal.ofBits .f32 0x43E00000#32) (max (Ideal.ofBits .f32 0xC3E00000#32) (x * two (-expo A)))

/-- The row's greatest magnitude is at most the greatest finite bf16, or infinite. -/
def InRange (A : EReal) : Prop := A ≤ Ideal.ofBits .f32 0x7F7F0000#32 ∨ A = ⊤

theorem inv448_eq : inv448 = ((9586981 * (2 : ℝ) ^ (-32 : ℤ) : ℝ) : EReal) := by
  simp [inv448, Ideal.ofBits, Ideal.ieee, -EReal.coe_mul]
theorem least_eq : Ideal.ofBits .f32 0x00800000#32 = (((2 : ℝ) ^ (-126 : ℤ) : ℝ) : EReal) := by
  rw [show (0x00800000#32 : BitVec 32) = (BitVec.ofInt 32 (-126) + 127#32) <<< 23 from by decide, ofBits_two (-126) (by norm_num) (by norm_num)]
  rfl
theorem most_eq : Ideal.ofBits .f32 0x7F7F0000#32 = ((255 * (2 : ℝ) ^ (120 : ℤ) : ℝ) : EReal) := by
  simp [Ideal.ofBits, Ideal.ieee, -EReal.coe_mul]
  norm_num
theorem inf_eq : Ideal.ofBits .f32 0x7F800000#32 = ⊤ := by simp [Ideal.ofBits, Ideal.ieee]

/-- The reference's test of a quotient. -/
theorem select_normal (a x y : EReal) [Decidable (Ideal.ofBits .f32 0x00800000#32 ≤ a)] [Decidable (a < Ideal.ofBits .f32 0x7F800000#32)] :
    Scalar.select (IntOp.andi (BitVec.ofBool (decide (Ideal.ofBits .f32 0x00800000#32 ≤ a)))
      (BitVec.ofBool (decide (a < Ideal.ofBits .f32 0x7F800000#32)))) x y = if Normal a then x else y := by
  have e : Normal a ↔ Ideal.ofBits .f32 0x00800000#32 ≤ a ∧ a < Ideal.ofBits .f32 0x7F800000#32 := by rw [Normal, inf_eq]
  by_cases h1 : Ideal.ofBits .f32 0x00800000#32 ≤ a <;> by_cases h2 : a < Ideal.ofBits .f32 0x7F800000#32 <;>
    simp only [e, h1, h2, decide_true, decide_false, and_true, and_false, if_true, if_false] <;> rfl

/-- In range and normal, the row's greatest magnitude over 448 is a real with an exponent the words hold. -/
theorem scaled {A : EReal} (h : InRange A) (hn : Normal (A * inv448)) :
    ∃ a : ℝ, A * inv448 = (a : EReal) ∧ (2 : ℝ) ^ (-126 : ℤ) ≤ a ∧ a < (2 : ℝ) ^ (120 : ℤ) := by
  have hi : (0 : ℝ) < 9586981 * (2 : ℝ) ^ (-32 : ℤ) := by positivity
  rw [inv448_eq] at hn ⊢
  obtain ⟨h1, h3⟩ := hn
  rw [least_eq] at h1
  rw [InRange, most_eq] at h
  induction A with
  | bot => rw [EReal.bot_mul_coe_of_pos hi] at h1; exact absurd (le_bot_iff.mp h1) (EReal.coe_ne_bot _)
  | top => rw [EReal.top_mul_coe_of_pos hi] at h3; exact absurd h3 (lt_irrefl _)
  | coe r =>
    have h2 := EReal.coe_le_coe_iff.mp (h.resolve_right (EReal.coe_ne_top r))
    rw [← EReal.coe_mul, EReal.coe_le_coe_iff] at h1
    refine ⟨r * (9586981 * (2 : ℝ) ^ (-32 : ℤ)), (EReal.coe_mul _ _).symm, h1, ?_⟩
    norm_num at h2 ⊢; linarith

/-- The exponent of a row in range, as a word holds it. -/
theorem expo_bounds {A : EReal} (h : InRange A) : -125 ≤ expo A ∧ expo A ≤ 120 := by
  unfold expo
  by_cases hn : Normal (A * inv448)
  · obtain ⟨a, ha, hl, hu⟩ := scaled h hn
    rw [if_pos hn, ha, EReal.toReal_coe]
    have := le_lg hl
    have := lg_lt (lt_of_lt_of_le (by positivity) hl) hu
    omega
  · rw [if_neg hn]; omega

/-! ## The kernel's exponent -/

/-- The exponent as the kernel's words compute it. -/
def kExpo (A : EReal) : BitVec 32 :=
  if A = 0 then 0#32
  else if A * inv448 < Ideal.ofBits .f32 0x00800000#32 ∨ (A * inv448 = ⊤ ∨ A * inv448 = ⊥) then 0#32
  else IntOp.addi (ladder (A * inv448)).2 1#32

theorem not_normal_zero : ¬ Normal (0 * inv448) := by
  rw [zero_mul, Normal, least_eq]
  exact fun h => absurd (EReal.coe_le_coe_iff.mp (h.1.trans_eq EReal.coe_zero.symm)) (not_le.mpr (by positivity))

theorem kExpo_eq {A : EReal} (h : InRange A) : kExpo A = BitVec.ofInt 32 (expo A) := by
  unfold kExpo expo
  by_cases h0 : A = 0
  · rw [if_pos h0, h0, if_neg not_normal_zero]; rfl
  rw [if_neg h0]
  by_cases hn : Normal (A * inv448)
  · obtain ⟨a, ha, hl, hu⟩ := scaled h hn
    rw [if_pos hn, if_neg, ha, EReal.toReal_coe, ladder_eq ((zpow_le_zpow_right₀ one_le_two (by norm_num)).trans hl)
      (hu.trans_le (zpow_le_zpow_right₀ one_le_two (by norm_num)))]
    · show _ + _ = _
      rw [BitVec.ofInt_add]; rfl
    · rintro (h | h | h)
      · exact absurd hn.1 (not_le.mpr h)
      · exact absurd (ha.symm.trans h) (EReal.coe_ne_top a)
      · exact absurd (ha.symm.trans h) (EReal.coe_ne_bot a)
  · rw [if_neg hn, if_pos]
    · rfl
    · by_contra hc
      simp only [not_or, not_lt] at hc
      exact hn ⟨hc.1, lt_top_iff_ne_top.mpr hc.2.1⟩

/-- The kernel's scale word is the power of two. -/
theorem kScale_eq {A : EReal} (h : InRange A) :
    Ideal.ofBits .f32 (IntOp.shli .vector (IntOp.addi (kExpo A) 127#32) 23#32) = two (expo A) := by
  rw [kExpo_eq h, ← ofBits_two (expo A) ((by norm_num : (-126 : ℤ) ≤ -125).trans (expo_bounds h).1) ((expo_bounds h).2.trans (by norm_num))]
  rfl

/-- The kernel's inverse scale word is the inverse power of two. -/
theorem kInv_eq {A : EReal} (h : InRange A) :
    Ideal.ofBits .f32 (IntOp.shli .vector (IntOp.addi (IntOp.subi 0#32 (kExpo A)) 127#32) 23#32) = two (-expo A) := by
  have := expo_bounds h
  rw [kExpo_eq h, ← ofBits_two (-expo A) (by omega) (by omega), BitVec.ofInt_neg,
    show IntOp.subi 0#32 (BitVec.ofInt 32 (expo A)) = -BitVec.ofInt 32 (expo A) from BitVec.zero_sub _]
  rfl

/-! ## The reference's exponent -/

/-- The exponent as the reference's logarithms compute it. -/
def rExpo (A : EReal) : EReal :=
  if A = 0 then 0
  else if Normal (A * inv448) then
    Ideal.liftRound Int.floor (Ideal.div (Ideal.log (A * inv448)) (Ideal.log (Ideal.ofBits .f32 0x40000000#32))) + Ideal.ofBits .f32 0x3F800000#32
  else 0

theorem two_eq : Ideal.ofBits .f32 0x40000000#32 = ((2 : ℝ) : EReal) := by
  rw [show (0x40000000#32 : BitVec 32) = (BitVec.ofInt 32 1 + 127#32) <<< 23 from by decide, ofBits_two 1 (by norm_num) (by norm_num)]
  simp [two]

theorem one_eq : Ideal.ofBits .f32 0x3F800000#32 = ((1 : ℝ) : EReal) := by
  rw [show (0x3F800000#32 : BitVec 32) = (BitVec.ofInt 32 0 + 127#32) <<< 23 from by decide, ofBits_two 0 (by norm_num) (by norm_num)]
  simp [two]

theorem rExpo_eq {A : EReal} (h : InRange A) : rExpo A = ((expo A : ℝ) : EReal) := by
  unfold rExpo expo
  by_cases h0 : A = 0
  · rw [if_pos h0, h0, if_neg not_normal_zero]; simp
  rw [if_neg h0]
  by_cases hn : Normal (A * inv448)
  · obtain ⟨a, ha, hl, hu⟩ := scaled h hn
    have hp : 0 < a := lt_of_lt_of_le (by positivity) hl
    have hl2 : Real.log 2 ≠ 0 := (Real.log_pos one_lt_two).ne'
    have e1 : Ideal.log (a : EReal) = (Real.log a : EReal) := if_neg (not_le.mpr hp)
    have e2 : Ideal.log ((2 : ℝ) : EReal) = (Real.log 2 : EReal) := if_neg (by norm_num)
    have e3 : Ideal.div (Real.log a : EReal) (Real.log 2 : EReal) = ((Real.log a / Real.log 2 : ℝ) : EReal) := by
      unfold Ideal.div
      rw [if_neg (by exact_mod_cast hl2), ← EReal.coe_inv, ← EReal.coe_mul, div_eq_mul_inv]
    rw [if_pos hn, if_pos hn, ha, EReal.toReal_coe, two_eq, one_eq, e1, e2, e3]
    show (((⌊Real.log a / Real.log 2⌋ : ℤ) : ℝ) : EReal) + ((1 : ℝ) : EReal) = _
    rw [← EReal.coe_add]
    push_cast
    rfl
  · rw [if_neg hn, if_neg hn]; simp

/-- Two to the reference's exponent, and to its negation. -/
theorem rScale_eq {A : EReal} (h : InRange A) : Ideal.pow (Ideal.ofBits .f32 0x40000000#32) (rExpo A) = two (expo A) := by
  rw [rExpo_eq h, two_eq]
  show ((Real.rpow 2 (expo A : ℝ) : ℝ) : EReal) = _
  exact congrArg _ (Real.rpow_intCast 2 (expo A))

theorem rInv_eq {A : EReal} (h : InRange A) : Ideal.pow (Ideal.ofBits .f32 0x40000000#32) (-rExpo A) = two (-expo A) := by
  rw [rExpo_eq h, two_eq, ← EReal.coe_neg]
  show ((Real.rpow 2 (-(expo A : ℝ)) : ℝ) : EReal) = _
  rw [show -(expo A : ℝ) = ((-expo A : ℤ) : ℝ) by push_cast; ring]
  exact congrArg _ (Real.rpow_intCast 2 (-expo A))

/-- A row's greatest magnitude. -/
def amax (row : Fin 7168 → EReal) : EReal := Finset.univ.fold max ⊥ fun k => max (row k) (-row k)

/-- The three results at a row: its scale, its codes, and the scaled product with a column plus the residual. -/
def scaleOf (row : Fin 7168 → EReal) : EReal := two (expo (amax row))
def codeOf (row : Fin 7168 → EReal) (k : Fin 7168) : EReal := code (amax row) (row k)
def outOf (row col : Fin 7168 → EReal) (ws res : EReal) : EReal := (∑ k, codeOf row k * col k) * scaleOf row * ws + res

end Cert.Quant

end
-- ==== Proof.Pre.lean ====
module

public import proofs.«01_k».proof.Defs
public import proofs.«01_k».proof.Proof.Quant
public import Idealize.ShloMosaic.Lib.Pointwise
public import Idealize.ShloMosaic.Lib.ReduceAll

/-! The precondition, read: it says of every row of `x` that the row's greatest magnitude is in range. -/

@[expose] public section

set_option maxRecDepth 16384

noncomputable section

namespace Cert.Proof

open Idealize.ShloMosaic Idealize.ShloMosaic.TcCoe Cert.Quant

instance pre_facts : Cert.Pre_rows_in_range.Facts where
  bitsLt_bf16_f32 := by decide
  reducesTo_S3x4096x7168_S3x4096_d2 := by decide
  h_S_ := by decide
  bcast_S_S3x4096 := by decide
  reducesTo_S3x4096_S_d0_1 := by decide

open Cert.Pre_rows_in_range Cert.Pre_rows_in_range.Facts

/-- The greatest magnitude the precondition takes of a row. -/
theorem max_at (x : FVec Ideal S3x4096x7168 .bf16) (b : Fin 3) (s : Fin 4096) :
    Host.reduce FloatOps.maximumf (Host.absf (extf .f32 x bitsLt_bf16_f32)) (constant S_ .f32 0xFF800000#32 : FVec Ideal S_ .f32)
      reducesTo_S3x4096x7168_S3x4096_d2 h_S_ (ix2 b s) = amax fun k => x (ix3 b s k) := by
  have bot : Ideal.ofBits .f32 0xFF800000#32 = ⊥ := by simp [Ideal.ofBits, Ideal.ieee]
  pointwise
  rw [bot]; rfl

/-- The precondition's word for each row, from the greatest magnitudes `v`. -/
def words (v : FVec Ideal S3x4096 .f32) : IVec S3x4096 1 :=
  ori (cmpf .ole v (broadcastInDim S3x4096 ![] bcast_S_S3x4096 (constant S_ .f32 0x7F7F0000#32)))
    (cmpf .oeq v (broadcastInDim S3x4096 ![] bcast_S_S3x4096 (constant S_ .f32 0x7F800000#32)))

theorem words_at (v : FVec Ideal S3x4096 .f32) (b : Fin 3) (s : Fin 4096) (h : words v (ix2 b s) = 1#1) : InRange (v (ix2 b s)) := by
  revert h
  unfold words
  pointwise
  have key : ∀ p q : Bool, IntOp.ori (BitVec.ofBool p) (BitVec.ofBool q) = 1#1 → p = true ∨ q = true := by decide
  intro h
  rcases key _ _ h with h | h
  · exact Or.inl (of_decide_eq_true h)
  · exact Or.inr ((of_decide_eq_true h).trans inf_eq)

theorem fn_eq (x : FVec Ideal S3x4096x7168 .bf16) (w : FVec Ideal S7168x7168 .fp8e4m3) (ws : FVec Ideal S7168 .f32)
    (r : FVec Ideal S3x4096x7168 .bf16) : fn (F := Ideal) x w ws r = Host.reduce IntOp.andi
      (words (Host.reduce FloatOps.maximumf (Host.absf (extf .f32 x bitsLt_bf16_f32)) (constant S_ .f32 0xFF800000#32 : FVec Ideal S_ .f32)
        reducesTo_S3x4096x7168_S3x4096_d2 h_S_)) (constantI S_ 1 1#1) reducesTo_S3x4096_S_d0_1 h_S_ := by
  unfold fn words
  rfl

theorem rows_range (x : FVec Ideal S3x4096x7168 .bf16) (w : FVec Ideal S7168x7168 .fp8e4m3) (ws : FVec Ideal S7168 .f32)
    (r : FVec Ideal S3x4096x7168 .bf16) (h : fn (F := Ideal) x w ws r = fun _ => 1#1) (b : Fin 3) (s : Fin 4096) :
    InRange (amax fun k => x (ix3 b s k)) := by
  rw [← max_at x b s]
  rw [fn_eq] at h
  exact words_at _ b s (Host.reduce_andi_all _ _ reducesTo_S3x4096_S_d0_1 h_S_ ix0 (congrFun h ix0) (ix2 b s))

theorem kernel_range (m : (ℓ : Loc Cert.KernelIdeal.nD Cert.KernelIdeal.τ Cert.KernelIdeal.sig) → Buf (Elt Ideal) ℓ)
    (h : Cert.Pre_KernelIdeal_rows_in_range m) (c : Dev Cert.KernelIdeal.nD) (b : Fin 3) (s : Fin 4096) :
    InRange (amax fun k => (m ((c : Thread Cert.KernelIdeal.nD Cert.KernelIdeal.τ).loc Cert.KernelIdeal.main_arg0) : FVec Ideal S3x4096x7168 .bf16) (ix3 b s k)) :=
  rows_range _ _ _ _ (h c) b s

end Cert.Proof

end
-- ==== Proof.KPoint.lean ====
module

public import proofs.«01_k».proof.Proof.KLoop
public import proofs.«01_k».proof.Proof.Quant
public import Idealize.ShloMosaic.Lib.Pipeline.ValueKit
public import Idealize.ShloMosaic.Lib.Pointwise

/-! What the kernel's blocks hold at an index, over the extended reals: the row's scale and codes, and the block of the
    scaled product plus the residual. -/

@[expose] public section

noncomputable section

namespace Cert.KernelIdeal.Gen

open Idealize.ShloMosaic Cert.Quant

theorem bits_bot : Ideal.ofBits .bf16 0xFF80#16 = ⊥ := by simp [Ideal.ofBits, Ideal.ieee]

theorem pay6_at (v : Vec Ideal S32x7168 .bf16) (r : Fin 32) (l : Fin 1) : k0_pay6 v (ix2 r l) = amax fun k => v (ix2 r k) := by
  pointwise [k0_pay6, k0_pay5, amax]
  rw [bits_bot]; rfl

theorem pay7_at (v : Vec Ideal S32x7168 .bf16) (j : S32x1.Idx) : k0_pay7 v j = k0_pay6 v j * inv448 := by
  pointwise [k0_pay7, inv448]

theorem bits_pow (w : BitVec 32) (n : ℤ) (h0 : -126 ≤ n) (h1 : n ≤ 127) (h : w = (BitVec.ofInt 32 n + 127#32) <<< 23) :
    Ideal.ofBits .f32 w = two n := h ▸ ofBits_two n h0 h1

/-! Each step of the ladder, as the kernel's payloads take it, from any exponent. -/

theorem step_up64 (v : Vec Ideal S32x7168 .bf16) (j : S32x1.Idx) (e : BitVec 32) :
    (k0_pay9 v j, Scalar.select (k0_pay8 v j) (IntOp.addi e 64#32) e) = up (two 64) (two (-64)) 64#32 (k0_pay7 v j, e) := by
  rw [← bits_pow 0x5F800000#32 64 (by decide) (by decide) (by decide), ← bits_pow 0x1F800000#32 (-64) (by decide) (by decide) (by decide)]
  unfold k0_pay9 k0_pay8
  generalize k0_pay7 v = m
  rfl
theorem step_up32 (v : Vec Ideal S32x7168 .bf16) (j : S32x1.Idx) (e : BitVec 32) :
    (k0_pay11 v j, Scalar.select (k0_pay10 v j) (IntOp.addi e 32#32) e) = up (two 32) (two (-32)) 32#32 (k0_pay9 v j, e) := by
  rw [← bits_pow 0x4F800000#32 32 (by decide) (by decide) (by decide), ← bits_pow 0x2F800000#32 (-32) (by decide) (by decide) (by decide)]
  unfold k0_pay11 k0_pay10
  generalize k0_pay9 v = m
  rfl
theorem step_up16 (v : Vec Ideal S32x7168 .bf16) (j : S32x1.Idx) (e : BitVec 32) :
    (k0_pay13 v j, Scalar.select (k0_pay12 v j) (IntOp.addi e 16#32) e) = up (two 16) (two (-16)) 16#32 (k0_pay11 v j, e) := by
  rw [← bits_pow 0x47800000#32 16 (by decide) (by decide) (by decide), ← bits_pow 0x37800000#32 (-16) (by decide) (by decide) (by decide)]
  unfold k0_pay13 k0_pay12
  generalize k0_pay11 v = m
  rfl
theorem step_up8 (v : Vec Ideal S32x7168 .bf16) (j : S32x1.Idx) (e : BitVec 32) :
    (k0_pay16 v j, Scalar.select (k0_pay15 v j) (IntOp.addi e 8#32) e) = up (two 8) (two (-8)) 8#32 (k0_pay13 v j, e) := by
  rw [← bits_pow 0x43800000#32 8 (by decide) (by decide) (by decide), ← bits_pow 0x3B800000#32 (-8) (by decide) (by decide) (by decide)]
  unfold k0_pay16 k0_pay15
  generalize k0_pay13 v = m
  rfl
theorem step_up4 (v62 : FVec Ideal S32x1 .f32) (j : S32x1.Idx) (e : BitVec 32) :
    (k0_pay19 v62 j, Scalar.select (k0_pay18 v62 j) (IntOp.addi e 4#32) e) = up (two 4) (two (-4)) 4#32 (v62 j, e) := by
  rw [← bits_pow 0x41800000#32 4 (by decide) (by decide) (by decide), ← bits_pow 0x3D800000#32 (-4) (by decide) (by decide) (by decide)]
  rfl
theorem step_up2 (v62 : FVec Ideal S32x1 .f32) (j : S32x1.Idx) (e : BitVec 32) :
    (k0_pay21 v62 j, Scalar.select (k0_pay20 v62 j) (IntOp.addi e 2#32) e) = up (two 2) (two (-2)) 2#32 (k0_pay19 v62 j, e) := by
  rw [← bits_pow 0x40800000#32 2 (by decide) (by decide) (by decide), ← bits_pow 0x3E800000#32 (-2) (by decide) (by decide) (by decide)]
  rfl
theorem step_up1 (v62 : FVec Ideal S32x1 .f32) (j : S32x1.Idx) (e : BitVec 32) :
    (k0_pay23 v62 j, Scalar.select (k0_pay22 v62 j) (IntOp.addi e 1#32) e) = up (two 1) (two (-1)) 1#32 (k0_pay21 v62 j, e) := by
  rw [← bits_pow 0x40000000#32 1 (by decide) (by decide) (by decide), ← bits_pow 0x3F000000#32 (-1) (by decide) (by decide) (by decide)]
  rfl
theorem step_dn64 (v62 : FVec Ideal S32x1 .f32) (j : S32x1.Idx) (e : BitVec 32) :
    (k0_pay25 v62 j, Scalar.select (k0_pay24 v62 j) (IntOp.subi e 64#32) e) = dn (two (-63)) (two 64) 64#32 (k0_pay23 v62 j, e) := by
  rw [← bits_pow 0x20000000#32 (-63) (by decide) (by decide) (by decide), ← bits_pow 0x5F800000#32 64 (by decide) (by decide) (by decide)]
  rfl
theorem step_dn32 (v62 : FVec Ideal S32x1 .f32) (j : S32x1.Idx) (e : BitVec 32) :
    (k0_pay27 v62 j, Scalar.select (k0_pay26 v62 j) (IntOp.subi e 32#32) e) = dn (two (-31)) (two 32) 32#32 (k0_pay25 v62 j, e) := by
  rw [← bits_pow 0x30000000#32 (-31) (by decide) (by decide) (by decide), ← bits_pow 0x4F800000#32 32 (by decide) (by decide) (by decide)]
  rfl

/-- The exponent after the four great steps up. -/
theorem up_great (v : Vec Ideal S32x7168 .bf16) (j : S32x1.Idx) :
    (k0_pay16 v j, Scalar.select (k0_pay15 v j) (k0_pay17 v j) (k0_pay14 v j))
      = (up (two 8) (two (-8)) 8#32 <| up (two 16) (two (-16)) 16#32 <| up (two 32) (two (-32)) 32#32 <| up (two 64) (two (-64)) 64#32 (k0_pay7 v j, 0#32)) := by
  rw [← step_up64, ← step_up32, ← step_up16, ← step_up8]
  pointwise [k0_pay17, k0_pay14]

/-- After the three small steps up and the two great steps down. -/
theorem middle (v57 : IVec S32x1 32) (v59 : IVec S32x1 1) (v62 : FVec Ideal S32x1 .f32) (v64 : IVec S32x1 32) (j : S32x1.Idx) :
    (k0_pay27 v62 j, k0_pay28 v57 v59 v62 v64 j)
      = (dn (two (-31)) (two 32) 32#32 <| dn (two (-63)) (two 64) 64#32 <| up (two 1) (two (-1)) 1#32 <| up (two 2) (two (-2)) 2#32 <|
          up (two 4) (two (-4)) 4#32 (v62 j, Scalar.select (v59 j) (v64 j) (v57 j))) := by
  rw [← step_up4, ← step_up2, ← step_up1, ← step_dn64, ← step_dn32]
  pointwise [k0_pay28]

/-- After the five small steps down, and one more. -/
theorem down_small (v62 : FVec Ideal S32x1 .f32) (e : IVec S32x1 32) (j : S32x1.Idx) :
    k0_pay31 (k0_pay27 v62) e (k0_pay29 v62) (FloatOps.ofBits FTy.f32 0x47800000#32) j
      = IntOp.addi (dn (two 0) (two 1) 1#32 <| dn (two (-1)) (two 2) 2#32 <| dn (two (-3)) (two 4) 4#32 <| dn (two (-7)) (two 8) 8#32 <|
          dn (two (-15)) (two 16) 16#32 (k0_pay27 v62 j, e j)).2 1#32 := by
  rw [← bits_pow 0x47800000#32 16 (by decide) (by decide) (by decide), ← bits_pow 0x38000000#32 (-15) (by decide) (by decide) (by decide),
    ← bits_pow 0x43800000#32 8 (by decide) (by decide) (by decide), ← bits_pow 0x3C000000#32 (-7) (by decide) (by decide) (by decide),
    ← bits_pow 0x41800000#32 4 (by decide) (by decide) (by decide), ← bits_pow 0x3E000000#32 (-3) (by decide) (by decide) (by decide),
    ← bits_pow 0x40800000#32 2 (by decide) (by decide) (by decide), ← bits_pow 0x3F000000#32 (-1) (by decide) (by decide) (by decide),
    ← bits_pow 0x3F800000#32 0 (by decide) (by decide) (by decide)]
  unfold k0_pay31 k0_pay29
  generalize k0_pay27 v62 = m
  rfl

/-- The exponent words of a chunk are the ladder's, plus one. -/
theorem qExp_at (v : Vec Ideal S32x7168 .bf16) (j : S32x1.Idx) : qExp v j = IntOp.addi (ladder (k0_pay7 v j)).2 1#32 := by
  rw [qExp, down_small, middle, up_great, ladder]

theorem pay30_at (v : FVec Ideal S32x1 .f32) (j : S32x1.Idx) (a b : BitVec 32) :
    Scalar.select (k0_pay30 v j) a b = if v j < Ideal.ofBits .f32 0x00800000#32 ∨ (v j = ⊤ ∨ v j = ⊥) then a else b := by
  pointwise [k0_pay30]
  have hw : FloatOps.weird (v j) = BitVec.ofBool (decide (v j = ⊤ ∨ v j = ⊥)) := rfl
  rw [hw]
  by_cases h1 : v j < Ideal.ofBits .f32 0x00800000#32 <;> by_cases h2 : (v j = ⊤ ∨ v j = ⊥) <;> simp only [h1, h2, decide_true, decide_false, or_true, true_or, or_false, if_true, if_false] <;> rfl

theorem pay1_at (v : Vec Ideal S32x7168 .bf16) (j : S32x1.Idx) :
    k0_pay1 (k0_pay6 v) (k0_pay30 (k0_pay7 v)) (qExp v) 0#32 j = kExpo (k0_pay6 v j) := by
  pointwise [k0_pay1]
  rw [pay30_at, pay7_at, qExp_at, pay7_at]
  rfl

/-- A chunk's scales, -/
theorem qScale_at (v : Vec Ideal S32x7168 .bf16) (r : Fin 32) (l : Fin 1) (h : InRange (amax fun k => v (ix2 r k))) :
    qScale v (ix2 r l) = two (expo (amax fun k => v (ix2 r k))) := by
  rw [← kScale_eq h, ← pay6_at v r l, ← pay1_at]
  rfl

/-- and codes. -/
theorem qCodes_at (v : Vec Ideal S32x7168 .bf16) (r : Fin 32) (k : Fin 7168) (h : InRange (amax fun k => v (ix2 r k))) :
    qCodes v (ix2 r k) = code (amax fun k => v (ix2 r k)) (v (ix2 r k)) := by
  unfold code
  rw [← kInv_eq h, ← pay6_at v r 0, ← pay1_at, qCodes]
  pointwise [k0_pay3, k0_pay5]

variable (x : FVec Ideal S1024x7168 .bf16)

theorem chunk_row (r : Fin 1024) (k : Fin 7168) : chunk (F := Ideal) x (rowChunk r) (ix2 (rowIn r) k) = x (ix2 r k) := by
  unfold chunk
  congr 2
  exact Fin.ext (Nat.div_add_mod r.val 32)

/-- A row block's scales, -/
theorem scaleBlk_at (r : Fin 1024) (l : Fin 1) (h : InRange (amax fun k => x (ix2 r k))) :
    scaleBlk (F := Ideal) x (ix2 r l) = two (expo (amax fun k => x (ix2 r k))) := by
  have e : (fun k => chunk (F := Ideal) x (rowChunk r) (ix2 (rowIn r) k)) = fun k => x (ix2 r k) := funext (chunk_row x r)
  rw [← e] at h ⊢
  exact qScale_at _ _ l h

/-- and codes. -/
theorem codesBlk_at (r : Fin 1024) (k : Fin 7168) (h : InRange (amax fun k => x (ix2 r k))) :
    codesBlk (F := Ideal) x (ix2 r k) = code (amax fun k => x (ix2 r k)) (x (ix2 r k)) := by
  have e : (fun k => chunk (F := Ideal) x (rowChunk r) (ix2 (rowIn r) k)) = fun k => x (ix2 r k) := funext (chunk_row x r)
  rw [← chunk_row x r k]
  rw [← e] at h ⊢
  exact qCodes_at _ _ k h

/-- An output block: the product of codes and weights, times the row's and the column's scale, plus the residual. -/
theorem pay4_at (codes : Vec Ideal S1024x7168 .fp8e4m3) (w : Vec Ideal S7168x512 .fp8e4m3) (s : Vec Ideal S1024x1 .f32)
    (ws : Vec Ideal S1x512 .f32) (res : Vec Ideal S1024x512 .bf16) (a : Fin 128) (b : Fin 8) (n : Fin 512) :
    k0_pay4 codes w s ws res (ix3 a b n)
      = (∑ k, codes (ix2 ⟨a.val * 8 + b.val, by omega⟩ k) * w (ix2 k n)) * s (ix2 ⟨a.val * 8 + b.val, by omega⟩ 0) * ws (ix2 0 n)
        + res (ix2 ⟨a.val * 8 + b.val, by omega⟩ n) := by
  pointwise [k0_pay4]

end Cert.KernelIdeal.Gen

end
-- ==== Proof.KFinal.lean ====
module

public import proofs.«01_k».proof.Proof.KBody
public import proofs.«01_k».proof.Proof.KPoint
public import Idealize.ShloMosaic.Lib.Pipeline.ValueKit
public import Idealize.ShloMosaic.Lib.Pipeline.Covers
public import Idealize.ShloMosaic.Lib.Pointwise

/-! What the kernel's three result arrays hold after the grid's last point, over the extended reals: the codes and scales
    of every row, and the scaled product plus the residual. -/

@[expose] public section

set_option maxRecDepth 16384

noncomputable section

namespace Cert.KernelIdeal.Gen

open Idealize.ShloMosaic Idealize.ShloMosaic.TcCoe Idealize.SL.Sem Cert.Quant
open Idealize.ShloMosaic.Pipeline (Dat)

variable (m : (ℓ : Loc nD τ sig) → Buf (Elt Ideal) ℓ)

/-- The block each window holds at each point: row block `t / 14`, column block `t % 14`. -/
theorem idx : ∀ t : Fin cfg0.N, win0_0.index t = ![t.val / 14, 0] ∧ win0_1.index t = ![0, t.val % 14]
    ∧ win0_2.index t = ![0, t.val % 14] ∧ win0_3.index t = ![t.val / 14, t.val % 14]
    ∧ win0_4.index t = ![t.val / 14, 0, t.val % 14] ∧ win0_5.index t = ![t.val / 14, 0] ∧ win0_6.index t = ![t.val / 14, 0] :=
  (by decide +kernel : ∀ t : Fin grid0.N, _)

/-- The rows of `x`, the array the blocks are cut from. -/
abbrev rows (c : Dev nD) : Vec Ideal S12288x7168 .bf16 := V m c main_v0

theorem start_div (t : Fin cfg0.N) : (start t).val / 14 = t.val / 14 := by
  show t.val / 14 * 14 / 14 = _; omega

theorem lt_N (t : Fin cfg0.N) : t.val / 14 < 12 := by
  have : t.val < 168 := t.isLt
  omega

/-- The row of the whole array at row `r` of the block point `t` reads. -/
def rowOf (t : Fin cfg0.N) (r : Fin 1024) : Fin 12288 := ⟨t.val / 14 * 1024 + r.val, by have := lt_N t; omega⟩

/-- The row block at the point its codes were taken is the rows of the array. -/
theorem iblk0_at (c : Dev nD) (t : Fin cfg0.N) (r : Fin 1024) (k : Fin 7168) :
    iblk m c 0 (start t) (ix2 r k) = rows m c (ix2 (rowOf t r) k) := by
  blk_ext [iblk, idx (start t), start_div t, rowOf]

/-- The other blocks at a point, at an index: the weights, the column scales and the residual. -/
theorem iblk1_at (c : Dev nD) (t : Fin cfg0.N) (k : Fin 7168) (n : Fin 512) :
    iblk m c 1 t (ix2 k n) = (V m c main_arg1 : Vec Ideal S7168x7168 .fp8e4m3) (ix2 k ⟨t.val % 14 * 512 + n.val, by omega⟩) := by
  blk_ext [iblk, idx t]
theorem iblk2_at (c : Dev nD) (t : Fin cfg0.N) (l : Fin 1) (n : Fin 512) :
    iblk m c 2 t (ix2 l n) = (V m c main_v1 : Vec Ideal S1x7168 .f32) (ix2 0 ⟨t.val % 14 * 512 + n.val, by omega⟩) := by
  blk_ext [iblk, idx t]
theorem iblk3_at (c : Dev nD) (t : Fin cfg0.N) (r : Fin 1024) (n : Fin 512) :
    iblk m c 3 t (ix2 r n) = (V m c main_v2 : Vec Ideal S12288x7168 .bf16) (ix2 (rowOf t r) ⟨t.val % 14 * 512 + n.val, by omega⟩) := by
  blk_ext [iblk, idx t, rowOf]

/-- A row's greatest magnitude. -/
def top (c : Dev nD) (i : Fin 12288) : EReal := amax fun k => rows m c (ix2 i k)

/-- The codes of every row, -/
def codesArr (c : Dev nD) : Vec Ideal S12288x7168 .fp8e4m3 := fun j => code (top m c (j 0)) (rows m c (ix2 (j 0) (j 1)))
/-- the scale of every row, -/
def scaleArr (c : Dev nD) : Vec Ideal S12288x1 .f32 := fun j => two (expo (top m c (j 0)))
/-- and the scaled product plus the residual, at a row and a column, -/
def outAt (c : Dev nD) (i : Fin 12288) (n : Fin 7168) : EReal :=
  (∑ k, code (top m c i) (rows m c (ix2 i k)) * (V m c main_arg1 : Vec Ideal S7168x7168 .fp8e4m3) (ix2 k n))
    * two (expo (top m c i)) * (V m c main_v1 : Vec Ideal S1x7168 .f32) (ix2 0 n) + (V m c main_v2 : Vec Ideal S12288x7168 .bf16) (ix2 i n)
/-- as the array the kernel leaves it in, eight rows to a tile. -/
def outArr (c : Dev nD) : Vec Ideal S1536x8x7168 .bf16 := fun j =>
  outAt m c ⟨(j 0).val * 8 + (j 1).val, by
    have h0 : (j 0).val < 1536 := (j 0).isLt
    have h1 : (j 1).val < 8 := (j 1).isLt
    omega⟩ (j 2)

variable (h : ∀ c i, InRange (top m c i))
include h

theorem amax_iblk (c : Dev nD) (t : Fin cfg0.N) (r : Fin 1024) : (amax fun k => iblk m c 0 (start t) (ix2 r k)) = top m c (rowOf t r) := by
  unfold top
  exact congrArg amax (funext fun k => iblk0_at m c t r k)

theorem codes_pt (c : Dev nD) (t : Fin cfg0.N) (r : Fin 1024) (k : Fin 7168) :
    codesBlk (F := Ideal) (iblk m c 0 (start t)) (ix2 r k) = code (top m c (rowOf t r)) (rows m c (ix2 (rowOf t r) k)) := by
  refine (codesBlk_at _ r k ?_).trans ?_
  · rw [amax_iblk m h]; exact h c _
  · rw [amax_iblk m h, iblk0_at]

theorem scale_pt (c : Dev nD) (t : Fin cfg0.N) (r : Fin 1024) (l : Fin 1) :
    scaleBlk (F := Ideal) (iblk m c 0 (start t)) (ix2 r l) = two (expo (top m c (rowOf t r))) := by
  refine (scaleBlk_at _ r l ?_).trans ?_
  · rw [amax_iblk m h]; exact h c _
  · rw [amax_iblk m h]

theorem final5 (c : Dev nD) : (dats m 0 c).arrAt 5 cfg0.N = codesArr m c := by
  refine (dats m 0 c).arrAt_eq_of_covers 5 _ (by decide +kernel) fun t _ y => ?_
  blk_simp
  rw [after0_5]
  obtain ⟨r, k, rfl⟩ : ∃ (r : Fin 1024) (k : Fin 7168), y = ix2 r k := ⟨y 0, y 1, eq_ix2 y⟩
  have e : (win0_5.blk t).view.emb (ix2 r k) = ix2 (rowOf t r) k := by blk_ext [idx t, rowOf]
  rw [e]
  exact codes_pt m h c t r k

theorem final6 (c : Dev nD) : (dats m 0 c).arrAt 6 cfg0.N = scaleArr m c := by
  refine (dats m 0 c).arrAt_eq_of_covers 6 _ (by decide +kernel) fun t _ y => ?_
  blk_simp
  rw [after0_6]
  obtain ⟨r, l, rfl⟩ : ∃ (r : Fin 1024) (l : Fin 1), y = ix2 r l := ⟨y 0, y 1, eq_ix2 y⟩
  have e : (win0_6.blk t).view.emb (ix2 r l) = ix2 (rowOf t r) 0 := by blk_ext [idx t, rowOf]
  rw [e]
  exact scale_pt m h c t r l

theorem final4 (c : Dev nD) : (dats m 0 c).arrAt 4 cfg0.N = outArr m c := by
  refine (dats m 0 c).arrAt_eq_of_covers 4 _ (by decide +kernel) fun t _ y => ?_
  blk_simp
  rw [after0_4]
  obtain ⟨a, b, n, rfl⟩ : ∃ (a : Fin 128) (b : Fin 8) (n : Fin 512), y = ix3 a b n := ⟨y 0, y 1, y 2, eq_ix3 y⟩
  have e : (win0_4.blk t).view.emb (ix3 a b n)
      = ix3 ⟨t.val / 14 * 128 + a.val, by have := lt_N t; omega⟩ b ⟨t.val % 14 * 512 + n.val, by omega⟩ := by blk_ext [idx t]
  rw [e]
  refine (pay4_at _ _ _ _ _ a b n).trans ?_
  have er : (⟨(t.val / 14 * 128 + a.val) * 8 + b.val, by have := lt_N t; omega⟩ : Fin 12288)
      = rowOf t ⟨a.val * 8 + b.val, by omega⟩ := by
    apply Fin.ext; show (t.val / 14 * 128 + a.val) * 8 + b.val = t.val / 14 * 1024 + (a.val * 8 + b.val); omega
  show _ = outAt m c ⟨(t.val / 14 * 128 + a.val) * 8 + b.val, _⟩ ⟨t.val % 14 * 512 + n.val, _⟩
  rw [er, scale_pt m h, iblk2_at, iblk3_at]
  simp only [codes_pt m h, iblk1_at]
  rfl

end Cert.KernelIdeal.Gen

end
-- ==== Proof.KTail.lean ====
module

public import proofs.«01_k».proof.Proof.KFinal
public import Idealize.ShloMosaic.Lib.StableHlo.ReadAt

/-! What the kernel computes, at an index, over the extended reals: its three results, read through the host's reshapes. -/

@[expose] public section

set_option maxRecDepth 16384

noncomputable section

namespace Cert.KernelIdeal.Gen

open Idealize.ShloMosaic Idealize.ShloMosaic.TcCoe Idealize.SL.Sem Cert.Quant

/-- The row of the flat arrays that is row `s` of batch `b`. -/
def flat (b : Fin 3) (s : Fin 4096) : Fin 12288 := ⟨b.val * 4096 + s.val, by omega⟩

theorem flat_surj (i : Fin 12288) : ∃ b s, i = flat b s :=
  ⟨⟨i.val / 4096, by omega⟩, ⟨i.val % 4096, by omega⟩, Fin.ext (by show i.val = i.val / 4096 * 4096 + i.val % 4096; omega)⟩

section
variable (U : Valuation τ sig (Elt Ideal)) (b : Fin 3) (s : Fin 4096) (l : Fin 1) (k n : Fin 7168)

abbrev atx (U : Valuation τ sig (Elt Ideal)) : Vec Ideal S3x4096x7168 .bf16 := U (Proc.devRef .tc main_arg0)
abbrev ats (U : Valuation τ sig (Elt Ideal)) : Vec Ideal S7168 .f32 := U (Proc.devRef .tc main_arg2)
abbrev atr (U : Valuation τ sig (Elt Ideal)) : Vec Ideal S3x4096x7168 .bf16 := U (Proc.devRef .tc main_arg3)
abbrev at0 (U : Valuation τ sig (Elt Ideal)) : Vec Ideal S12288x7168 .bf16 := U (Proc.devRef .tc main_v0)
abbrev at1 (U : Valuation τ sig (Elt Ideal)) : Vec Ideal S1x7168 .f32 := U (Proc.devRef .tc main_v1)
abbrev at2 (U : Valuation τ sig (Elt Ideal)) : Vec Ideal S12288x7168 .bf16 := U (Proc.devRef .tc main_v2)
abbrev at30 (U : Valuation τ sig (Elt Ideal)) : Vec Ideal S1536x8x7168 .bf16 := U (Proc.devRef .tc main_v3_0)
abbrev at31 (U : Valuation τ sig (Elt Ideal)) : Vec Ideal S12288x7168 .fp8e4m3 := U (Proc.devRef .tc main_v3_1)
abbrev at32 (U : Valuation τ sig (Elt Ideal)) : Vec Ideal S12288x1 .f32 := U (Proc.devRef .tc main_v3_2)
abbrev at4 (U : Valuation τ sig (Elt Ideal)) : Vec Ideal S3x4096x7168 .bf16 := U (Proc.devRef .tc main_v4)
abbrev at5 (U : Valuation τ sig (Elt Ideal)) : Vec Ideal S3x4096x7168 .fp8e4m3 := U (Proc.devRef .tc main_v5)
abbrev at6 (U : Valuation τ sig (Elt Ideal)) : Vec Ideal S3x4096x1 .f32 := U (Proc.devRef .tc main_v6)

theorem head_v0 : at0 (StableHlo.after hostOps0 U) (ix2 (flat b s) k) = atx U (ix3 b s k) := by
  unfold flat
  simp only [at0, hostOps0]
  after_reads_at

theorem head_v1 (l : Fin 1) : at1 (StableHlo.after hostOps0 U) (ix2 l n) = ats U (ix1 n) := by
  simp only [at1, hostOps0]
  after_reads_at

theorem head_v2 : at2 (StableHlo.after hostOps0 U) (ix2 (flat b s) n) = atr U (ix3 b s n) := by
  unfold flat
  simp only [at2, hostOps0]
  after_reads_at

theorem tail_v4 : at4 (StableHlo.after hostOps1 U) (ix3 b s n)
    = at30 U (ix3 ⟨b.val * 512 + s.val / 8, by omega⟩ ⟨s.val % 8, by omega⟩ n) := by
  simp only [at4, hostOps1]
  after_reads_at

theorem tail_v5 : at5 (StableHlo.after hostOps1 U) (ix3 b s k) = at31 U (ix2 (flat b s) k) := by
  unfold flat
  simp only [at5, hostOps1]
  after_reads_at

theorem tail_v6 : at6 (StableHlo.after hostOps1 U) (ix3 b s l) = at32 U (ix2 (flat b s) 0) := by
  unfold flat
  simp only [at6, hostOps1]
  after_reads_at

end

variable (m : (ℓ : Loc nD τ sig) → Buf (Elt Ideal) ℓ) (c : Dev nD)

/-- The argument arrays, and a row of `x`. -/
abbrev xs : Vec Ideal S3x4096x7168 .bf16 := m ((c : Thread nD τ).loc main_arg0)
abbrev wq : Vec Ideal S7168x7168 .fp8e4m3 := m ((c : Thread nD τ).loc main_arg1)
abbrev ws : Vec Ideal S7168 .f32 := m ((c : Thread nD τ).loc main_arg2)
abbrev rs : Vec Ideal S3x4096x7168 .bf16 := m ((c : Thread nD τ).loc main_arg3)
abbrev row (b : Fin 3) (s : Fin 4096) (k : Fin 7168) : EReal := xs m c (ix3 b s k)

theorem rows_flat (b : Fin 3) (s : Fin 4096) (k : Fin 7168) : rows m c (ix2 (flat b s) k) = row m c b s k :=
  head_v0 (fun b => m (c, b)) b s k

theorem top_flat (b : Fin 3) (s : Fin 4096) : top m c (flat b s) = amax (row m c b s) :=
  congrArg amax (funext fun k => rows_flat m c b s k)

/-- The contents of the buffers after the region, and what the host lines after it make of them. -/
abbrev mid : Valuation τ sig (Elt Ideal) := Pipeline.withArrays (cfgs 0).spec c (V0 m c) fun w => (dats m 0 c).arrAt w (cfgs 0).N
abbrev out (b : Ref sig .tc) : Buf (Elt Ideal) ((c : Thread nD τ).loc b) := Pipeline.afterTail₀ cfgs (dats m) 0 (V0 m) [hostOps1] c b

variable (h : ∀ c b s, InRange (amax (row m c b s)))
include h

theorem top_range (c : Dev nD) (i : Fin 12288) : InRange (top m c i) := by
  obtain ⟨b, s, rfl⟩ := flat_surj i
  rw [top_flat]; exact h c b s

theorem mid_4 : at30 (mid m c) = outArr m c :=
  (Pipeline.withArrays_arr spec0 launch0.win.arr_inj c (V0 m c) _ 4).trans (final4 m (top_range m h) c)
theorem mid_5 : at31 (mid m c) = codesArr m c :=
  (Pipeline.withArrays_arr spec0 launch0.win.arr_inj c (V0 m c) _ 5).trans (final5 m (top_range m h) c)
theorem mid_6 : at32 (mid m c) = scaleArr m c :=
  (Pipeline.withArrays_arr spec0 launch0.win.arr_inj c (V0 m c) _ 6).trans (final6 m (top_range m h) c)

/-- The scales, -/
theorem out_v6 (b : Fin 3) (s : Fin 4096) (l : Fin 1) : (out m c main_v6 : Vec Ideal S3x4096x1 .f32) (ix3 b s l) = scaleOf (row m c b s) := by
  refine (tail_v6 (mid m c) b s l).trans ?_
  rw [mid_6 m c h]
  exact congrArg (fun A => two (expo A)) (top_flat m c b s)

/-- the codes, -/
theorem out_v5 (b : Fin 3) (s : Fin 4096) (k : Fin 7168) :
    (out m c main_v5 : Vec Ideal S3x4096x7168 .fp8e4m3) (ix3 b s k) = codeOf (row m c b s) k := by
  refine (tail_v5 (mid m c) b s k).trans ?_
  rw [mid_5 m c h]
  exact congrArg₂ code (top_flat m c b s) (rows_flat m c b s k)

/-- and the first result. -/
theorem out_v4 (b : Fin 3) (s : Fin 4096) (n : Fin 7168) : (out m c main_v4 : Vec Ideal S3x4096x7168 .bf16) (ix3 b s n)
    = outOf (row m c b s) (fun k => wq m c (ix2 k n)) (ws m c (ix1 n)) (rs m c (ix3 b s n)) := by
  refine (tail_v4 (mid m c) b s n).trans ?_
  rw [mid_4 m c h]
  have e : (⟨(b.val * 512 + s.val / 8) * 8 + s.val % 8, by omega⟩ : Fin 12288) = flat b s := by
    apply Fin.ext; show (b.val * 512 + s.val / 8) * 8 + s.val % 8 = b.val * 4096 + s.val; omega
  show outAt m c ⟨(b.val * 512 + s.val / 8) * 8 + s.val % 8, _⟩ n = _
  rw [e]
  unfold outAt outOf codeOf scaleOf
  rw [top_flat, V_main_arg1]
  rw [show (V m c main_v1 : Vec Ideal S1x7168 .f32) (ix2 0 n) = ws m c (ix1 n) from head_v1 (fun b => m (c, b)) n 0,
    show (V m c main_v2 : Vec Ideal S12288x7168 .bf16) (ix2 (flat b s) n) = rs m c (ix3 b s n) from head_v2 (fun b => m (c, b)) b s n]
  exact congrArg (fun S : EReal => S * two (expo (amax (row m c b s))) * ws m c (ix1 n) + rs m c (ix3 b s n))
    (Finset.sum_congr rfl fun k _ => congrArg (fun v => code (amax (row m c b s)) v * wq m c (ix2 k n)) (rows_flat m c b s k))

end Cert.KernelIdeal.Gen

end
-- ==== Proof.RValue.lean ====
module

public import proofs.«01_k».proof.Proof.Gen.ReferenceIdeal.Frame
public import proofs.«01_k».proof.Proof.Quant
public import Idealize.ShloMosaic.Lib.Pipeline.ValueKit
public import Idealize.ShloMosaic.Lib.StableHlo.ReadAt
public import Idealize.ShloMosaic.Lib.Pointwise

/-! What the reference computes, at an index, over the extended reals: each row's scale and codes. -/

@[expose] public section

set_option maxRecDepth 16384

noncomputable section

namespace Cert.ReferenceIdeal.Gen

open Idealize.ShloMosaic Idealize.ShloMosaic.TcCoe Idealize.SL.Sem Cert.Quant

/-! The host lines before the region, cut in four: the row maximum; the exponent; the scale and the
    clipped quotient; the codes. Each part is
    read from any contents `U` of the buffers before it. -/

abbrev part1 : List (HloOp τ sig (Elt Ideal)) := hostOps0.take 5
abbrev part2 : List (HloOp τ sig (Elt Ideal)) := hostOps0.drop 5 ++ hostOps0_1 ++ hostOps0_2 ++ hostOps0_3
abbrev part3 : List (HloOp τ sig (Elt Ideal)) := hostOps0_4 ++ hostOps0_5
abbrev part4 : List (HloOp τ sig (Elt Ideal)) := hostOps0_6

theorem bits_bot : Ideal.ofBits .f32 0xFF800000#32 = ⊥ := by simp [Ideal.ofBits, Ideal.ieee]
theorem bits_one : Ideal.ofBits .f32 0x3F800000#32 = 1 := one_eq.trans EReal.coe_one
theorem sitofp_zero : (FloatOps.sitofp .f32 (0#32) : Ideal .f32) = (0 : EReal) := by
  show ((((0#32 : BitVec 32).toInt : ℤ) : ℝ) : EReal) = 0
  simp

section
variable (U : Valuation τ sig (Elt Ideal)) (b : Fin 3) (s : Fin 4096) (l : Fin 1) (k : Fin 7168)

abbrev at0 (U : Valuation τ sig (Elt Ideal)) : Vec Ideal S3x4096x7168 .bf16 := U (Proc.devRef .tc main_arg0)
abbrev at3 (U : Valuation τ sig (Elt Ideal)) : Vec Ideal S3x4096x1 .f32 := U (Proc.devRef .tc main_v3)
abbrev atf (U : Valuation τ sig (Elt Ideal)) : Vec Ideal S3x4096x7168 .f32 := U (Proc.devRef .tc main_v0)
abbrev at6 (U : Valuation τ sig (Elt Ideal)) : Vec Ideal S3x4096x1 .f32 := U (Proc.devRef .tc main_v6)
abbrev at21 (U : Valuation τ sig (Elt Ideal)) : Vec Ideal S3x4096x1 .f32 := U (Proc.devRef .tc main_v21)
abbrev at22 (U : Valuation τ sig (Elt Ideal)) : Vec Ideal S3x4096x1 .f32 := U (Proc.devRef .tc main_v22)
abbrev at27 (U : Valuation τ sig (Elt Ideal)) : Vec Ideal S3x4096x7168 .f32 := U (Proc.devRef .tc main_v27)
abbrev at28 (U : Valuation τ sig (Elt Ideal)) : Vec Ideal S3x4096x7168 .fp8e4m3 := U (Proc.devRef .tc main_v28)
abbrev at29 (U : Valuation τ sig (Elt Ideal)) : Vec Ideal S12288x7168 .fp8e4m3 := U (Proc.devRef .tc main_v29)

theorem part1_v3 : at3 (StableHlo.after part1 U) (ix3 b s l) = amax fun k => at0 U (ix3 b s k) := by
  simp only [at3, part1, hostOps0, List.take_succ_cons, List.take_zero]
  after_reads_at
  rw [bits_bot]; rfl

theorem part1_v0 : atf (StableHlo.after part1 U) (ix3 b s k) = at0 U (ix3 b s k) := by
  simp only [atf, part1, hostOps0, List.take_succ_cons, List.take_zero]
  after_reads_at

theorem part2_v21 : at21 (StableHlo.after part2 U) (ix3 b s l) = rExpo (at3 U (ix3 b s l)) := by
  simp only [at21, part2, hostOps0, hostOps0_1, hostOps0_2, hostOps0_3, List.drop_succ_cons, List.drop_zero, List.cons_append, List.nil_append]
  after_reads_at
  unfold rExpo
  rw [sitofp_zero, bits_one, select_normal]; rfl

theorem part2_v6 : at6 (StableHlo.after part2 U) (ix3 b s l) = Ideal.ofBits .f32 0x40000000#32 := by
  simp only [at6, part2, hostOps0, hostOps0_1, hostOps0_2, hostOps0_3, List.drop_succ_cons, List.drop_zero, List.cons_append, List.nil_append]
  after_reads_at

theorem part2_v0 : atf (StableHlo.after part2 U) (ix3 b s k) = atf U (ix3 b s k) := by
  simp only [atf, part2, hostOps0, hostOps0_1, hostOps0_2, hostOps0_3, List.drop_succ_cons, List.drop_zero, List.cons_append, List.nil_append]
  after_reads_at

theorem part3_v22 : at22 (StableHlo.after part3 U) (ix3 b s l) = Ideal.pow (at6 U (ix3 b s l)) (at21 U (ix3 b s l)) := by
  simp only [at22, part3, hostOps0_4, hostOps0_5, List.cons_append, List.nil_append]
  after_reads_at

theorem part3_v27 : at27 (StableHlo.after part3 U) (ix3 b s k) = min (Ideal.ofBits .f32 0x43E00000#32) (max (Ideal.ofBits .f32 0xC3E00000#32)
    (atf U (ix3 b s k) * Ideal.pow (at6 U (ix3 b s 0)) (-at21 U (ix3 b s 0)))) := by
  simp only [at27, part3, hostOps0_4, hostOps0_5, List.cons_append, List.nil_append]
  after_reads_at
  rfl

theorem part4_v22 : at22 (StableHlo.after part4 U) = at22 U := by
  simp only [at22, part4, hostOps0_6]
  after_reads_simp

theorem part4_v28 : at28 (StableHlo.after part4 U) (ix3 b s k) = at27 U (ix3 b s k) := by
  simp only [at28, part4, hostOps0_6]
  after_reads_at

theorem part4_v29 : at29 (StableHlo.after part4 U) (ix2 ⟨b.val * 4096 + s.val, by omega⟩ k) = at27 U (ix3 b s k) := by
  simp only [at29, part4, hostOps0_6]
  after_reads_at

end

/-! The four parts together. -/

variable (m : (ℓ : Loc nD τ sig) → Buf (Elt Ideal) ℓ)

theorem V0_parts (c : Dev nD) :
    V0 m c = StableHlo.after part4 (StableHlo.after part3 (StableHlo.after part2 (StableHlo.after part1 fun b => m (c, b)))) := rfl

/-- The rows of `x`, and a row's greatest magnitude. -/
abbrev xs (c : Dev nD) : Vec Ideal S3x4096x7168 .bf16 := m ((c : Thread nD τ).loc main_arg0)
def top (c : Dev nD) (b : Fin 3) (s : Fin 4096) : EReal := amax fun k => xs m c (ix3 b s k)

variable (h : ∀ c b s, InRange (top m c b s)) (c : Dev nD) (b : Fin 3) (s : Fin 4096)
include h

theorem scale_at (l : Fin 1) : at22 (V0 m c) (ix3 b s l) = two (expo (top m c b s)) := by
  rw [V0_parts, part4_v22, part3_v22, part2_v6, part2_v21, part1_v3]
  exact rScale_eq (h c b s)

theorem clip_at (k : Fin 7168) :
    at27 (StableHlo.after part3 (StableHlo.after part2 (StableHlo.after part1 fun b => m (c, b)))) (ix3 b s k)
      = code (top m c b s) (xs m c (ix3 b s k)) := by
  rw [part3_v27, part2_v0, part1_v0, part2_v6, part2_v21, part1_v3]
  unfold code
  exact congrArg (fun z => min _ (max _ (_ * z))) (rInv_eq (h c b s))

theorem codes_at (k : Fin 7168) : at28 (V0 m c) (ix3 b s k) = code (top m c b s) (xs m c (ix3 b s k)) := by
  rw [V0_parts, part4_v28]; exact clip_at m h c b s k

theorem codes_flat (k : Fin 7168) :
    at29 (V0 m c) (ix2 ⟨b.val * 4096 + s.val, by omega⟩ k) = code (top m c b s) (xs m c (ix3 b s k)) := by
  rw [V0_parts, part4_v29]; exact clip_at m h c b s k

end Cert.ReferenceIdeal.Gen

end
-- ==== Proof.RFinal.lean ====
module

public import proofs.«01_k».proof.Proof.RValue

/-! What the reference computes, at an index, over the extended reals: the product its region leaves and the result the host
    lines after it make. -/

@[expose] public section

set_option maxRecDepth 16384

noncomputable section

namespace Cert.ReferenceIdeal.Gen

open Idealize.ShloMosaic Idealize.ShloMosaic.TcCoe Idealize.SL.Sem Cert.Quant

abbrev at30 (U : Valuation τ sig (Elt Ideal)) : Vec Ideal S12288x7168 .f32 := U (Proc.devRef .tc main_v30)
abbrev at2 (U : Valuation τ sig (Elt Ideal)) : Vec Ideal S7168 .f32 := U (Proc.devRef .tc main_arg2)
abbrev atr (U : Valuation τ sig (Elt Ideal)) : Vec Ideal S3x4096x7168 .bf16 := U (Proc.devRef .tc main_arg3)
abbrev at39 (U : Valuation τ sig (Elt Ideal)) : Vec Ideal S3x4096x7168 .bf16 := U (Proc.devRef .tc main_v39)

/-- The host lines after the region, from any contents `U` of the buffers before them. -/
theorem tail_v39 (U : Valuation τ sig (Elt Ideal)) (b : Fin 3) (s : Fin 4096) (n : Fin 7168) :
    at39 (StableHlo.after hostOps1 U) (ix3 b s n)
      = at30 U (ix2 ⟨b.val * 4096 + s.val, by omega⟩ n) * at22 U (ix3 b s 0) * at2 U (ix1 n) + atr U (ix3 b s n) := by
  simp only [at39, hostOps1]
  after_reads_at

variable (m : (ℓ : Loc nD τ sig) → Buf (Elt Ideal) ℓ)

/-- The region's one block is the whole array. -/
theorem idx : ∀ t : Fin cfg0.N, win0_0.index t = ![0, 0] ∧ win0_1.index t = ![0, 0] ∧ win0_2.index t = ![0, 0] :=
  (by decide +kernel : ∀ t : Fin grid0.N, _)

theorem pay1_at (codes : Vec Ideal S12288x7168 .fp8e4m3) (w : Vec Ideal S7168x7168 .fp8e4m3) (i : Fin 12288) (n : Fin 7168) :
    k0_pay1 codes w (ix2 i n) = ∑ k, codes (ix2 i k) * w (ix2 k n) := by
  pointwise [k0_pay1]

theorem iblk0_eq (c : Dev nD) : iblk m c 0 t0_0 = at29 (V0 m c) := by
  blk_ext! [iblk, idx t0_0]
theorem iblk1_eq (c : Dev nD) : iblk m c 1 t0_0 = m ((c : Thread nD τ).loc main_arg1) := by
  rw [← V_main_arg1 m c]
  blk_ext! [iblk, idx t0_0]

theorem acc_eq (c : Dev nD) : (dats m 0 c).arrAt 2 cfg0.N
    = k0_pay1 (F := Ideal) (at29 (V0 m c)) (m ((c : Thread nD τ).loc main_arg1)) := by
  refine (dats m 0 c).arrAt_eq_of_after_last 2 t0_0 (by decide +kernel) _ fun j => ?_
  blk_simp
  rw [after0_2]
  frame_out
  rw [iblk0_eq, iblk1_eq]

end Cert.ReferenceIdeal.Gen

end
-- ==== Proof.RTail.lean ====
module

public import proofs.«01_k».proof.Proof.RFinal

/-! What the reference leaves in its three results, over the extended reals, from the launch's arguments. -/

@[expose] public section

set_option maxRecDepth 16384

noncomputable section

namespace Cert.ReferenceIdeal.Gen

open Idealize.ShloMosaic Idealize.ShloMosaic.TcCoe Idealize.SL.Sem Cert.Quant

variable (m : (ℓ : Loc nD τ sig) → Buf (Elt Ideal) ℓ) (c : Dev nD)

/-- The argument arrays, and a row of `x`. -/
abbrev wq : Vec Ideal S7168x7168 .fp8e4m3 := m ((c : Thread nD τ).loc main_arg1)
abbrev ws : Vec Ideal S7168 .f32 := m ((c : Thread nD τ).loc main_arg2)
abbrev rs : Vec Ideal S3x4096x7168 .bf16 := m ((c : Thread nD τ).loc main_arg3)
abbrev row (b : Fin 3) (s : Fin 4096) (k : Fin 7168) : EReal := xs m c (ix3 b s k)

/-- The contents of the buffers after the region, and what the host lines after it make of them. -/
abbrev mid : Valuation τ sig (Elt Ideal) := Pipeline.withArrays (cfgs 0).spec c (V0 m c) fun w => (dats m 0 c).arrAt w (cfgs 0).N
abbrev out (b : Ref sig .tc) : Buf (Elt Ideal) ((c : Thread nD τ).loc b) := Pipeline.afterTail₀ cfgs (dats m) 0 (V0 m) [hostOps1] c b

/-- The host lines after the region write neither the scales nor the codes, and neither does the region. -/
theorem mid_22 : at22 (mid m c) = at22 (V0 m c) :=
  Pipeline.withArrays_of_ne _ c (V0 m c) _ main_v22 (by exact (by decide : ∀ w, Pipeline.arrRef spec0 w ≠ main_v22))
theorem mid_28 : at28 (mid m c) = at28 (V0 m c) :=
  Pipeline.withArrays_of_ne _ c (V0 m c) _ main_v28 (by exact (by decide : ∀ w, Pipeline.arrRef spec0 w ≠ main_v28))
theorem mid_2 : at2 (mid m c) = ws m c :=
  (Pipeline.withArrays_of_ne _ c (V0 m c) _ main_arg2 (by exact (by decide : ∀ w, Pipeline.arrRef spec0 w ≠ main_arg2))).trans (V_main_arg2 m c)
theorem mid_r : atr (mid m c) = rs m c :=
  (Pipeline.withArrays_of_ne _ c (V0 m c) _ main_arg3 (by exact (by decide : ∀ w, Pipeline.arrRef spec0 w ≠ main_arg3))).trans (V_main_arg3 m c)
theorem mid_30 : at30 (mid m c) = k0_pay1 (F := Ideal) (at29 (V0 m c)) (wq m c) :=
  (Pipeline.withArrays_arr spec0 launch0.win.arr_inj c (V0 m c) _ 2).trans (acc_eq m c)

theorem tail_v22 (U : Valuation τ sig (Elt Ideal)) : at22 (StableHlo.after hostOps1 U) = at22 U := by
  simp only [at22, hostOps1]
  after_reads_at
theorem tail_v28 (U : Valuation τ sig (Elt Ideal)) : at28 (StableHlo.after hostOps1 U) = at28 U := by
  simp only [at28, hostOps1]
  after_reads_at

variable (h : ∀ c b s, InRange (amax (row m c b s)))
include h

/-- The scales, -/
theorem out_v22 (b : Fin 3) (s : Fin 4096) (l : Fin 1) : (out m c main_v22 : Vec Ideal S3x4096x1 .f32) (ix3 b s l) = scaleOf (row m c b s) := by
  refine (congrFun (tail_v22 (mid m c)) _).trans ?_
  rw [mid_22]
  exact scale_at m h c b s l

/-- the codes, -/
theorem out_v28 (b : Fin 3) (s : Fin 4096) (k : Fin 7168) :
    (out m c main_v28 : Vec Ideal S3x4096x7168 .fp8e4m3) (ix3 b s k) = codeOf (row m c b s) k := by
  refine (congrFun (tail_v28 (mid m c)) _).trans ?_
  rw [mid_28]
  exact codes_at m h c b s k

/-- and the first result. -/
theorem out_v39 (b : Fin 3) (s : Fin 4096) (n : Fin 7168) : (out m c main_v39 : Vec Ideal S3x4096x7168 .bf16) (ix3 b s n)
    = outOf (row m c b s) (fun k => wq m c (ix2 k n)) (ws m c (ix1 n)) (rs m c (ix3 b s n)) := by
  refine (tail_v39 (mid m c) b s n).trans ?_
  rw [mid_30, mid_22, mid_2, mid_r, pay1_at, scale_at m h]
  exact congrArg (fun S : EReal => S * scaleOf (row m c b s) * ws m c (ix1 n) + rs m c (ix3 b s n))
    (Finset.sum_congr rfl fun k _ => congrArg (fun v => v * wq m c (ix2 k n)) (codes_flat m h c b s k))

end Cert.ReferenceIdeal.Gen

end
-- ==== Proof.Value.lean ====
module

public import proofs.«01_k».proof.Proof.Pre
public import proofs.«01_k».proof.Proof.KTail
public import proofs.«01_k».proof.Proof.RTail

/-! The value claim: both programs leave the same three results over the extended reals. -/

@[expose] public section

set_option maxRecDepth 16384

noncomputable section

namespace Cert.Proof

open Idealize.ShloMosaic Idealize.ShloMosaic.TcCoe Idealize.SL.Sem Cert.Quant

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev 1)
  (e0 : ReferenceIdeal.Gen.xs m' = KernelIdeal.Gen.xs m) (e1 : ReferenceIdeal.Gen.wq m' = KernelIdeal.Gen.wq m)
  (e2 : ReferenceIdeal.Gen.ws m' = KernelIdeal.Gen.ws m) (e3 : ReferenceIdeal.Gen.rs m' = KernelIdeal.Gen.rs m)
  (h : ∀ c b s, InRange (amax (KernelIdeal.Gen.row m c b s)))
include e0

theorem row_eq (c : Dev 1) (b : Fin 3) (s : Fin 4096) : ReferenceIdeal.Gen.row m' c b s = KernelIdeal.Gen.row m c b s :=
  funext fun k => congrFun (congrFun e0 c) (ix3 b s k)

include h

theorem range' (c : Dev 1) (b : Fin 3) (s : Fin 4096) : InRange (amax (ReferenceIdeal.Gen.row m' c b s)) := by
  rw [row_eq m m' e0]; exact h c b s

/-- The scales, -/
theorem third : ReferenceIdeal.Gen.out m' c ReferenceIdeal.main_v22 = KernelIdeal.Gen.out m c KernelIdeal.main_v6 := by
  funext y
  obtain ⟨b, s, l, rfl⟩ : ∃ (b : Fin 3) (s : Fin 4096) (l : Fin 1), y = ix3 b s l := ⟨y 0, y 1, y 2, eq_ix3 y⟩
  refine (ReferenceIdeal.Gen.out_v22 m' c (range' m m' e0 h) b s l).trans (Eq.trans ?_ (KernelIdeal.Gen.out_v6 m c h b s l).symm)
  rw [row_eq m m' e0]

/-- the codes, -/
theorem second : ReferenceIdeal.Gen.out m' c ReferenceIdeal.main_v28 = KernelIdeal.Gen.out m c KernelIdeal.main_v5 := by
  funext y
  obtain ⟨b, s, k, rfl⟩ : ∃ (b : Fin 3) (s : Fin 4096) (k : Fin 7168), y = ix3 b s k := ⟨y 0, y 1, y 2, eq_ix3 y⟩
  refine (ReferenceIdeal.Gen.out_v28 m' c (range' m m' e0 h) b s k).trans (Eq.trans ?_ (KernelIdeal.Gen.out_v5 m c h b s k).symm)
  rw [row_eq m m' e0]

include e1 e2 e3 in
/-- and the scaled product with the residual. -/
theorem first : ReferenceIdeal.Gen.out m' c ReferenceIdeal.main_v39 = KernelIdeal.Gen.out m c KernelIdeal.main_v4 := by
  funext y
  obtain ⟨b, s, n, rfl⟩ : ∃ (b : Fin 3) (s : Fin 4096) (n : Fin 7168), y = ix3 b s n := ⟨y 0, y 1, y 2, eq_ix3 y⟩
  refine (ReferenceIdeal.Gen.out_v39 m' c (range' m m' e0 h) b s n).trans (Eq.trans ?_ (KernelIdeal.Gen.out_v4 m c h b s n).symm)
  rw [row_eq m m' e0, e1, e2, e3]

end

theorem algebraic : Cert.algebraic_KernelIdeal_ReferenceIdeal_pre_rows_in_range (hKernelIdeal := Cert.KernelIdeal.Gen.facts)
    (hReferenceIdeal := Cert.ReferenceIdeal.Gen.facts) (hPre_rows_in_range := pre_facts) := by
  pair_intro
  · run_from Cert.KernelIdeal.Gen.run_main m g
    all_goals first
      | exact KernelIdeal.Gen.W_main_arg0 m _ c
      | exact KernelIdeal.Gen.W_main_arg2 m _ c
      | exact KernelIdeal.Gen.W_main_arg3 m _ c
  · have e0 : ReferenceIdeal.Gen.xs m' = KernelIdeal.Gen.xs m := funext fun c => (hagree c).1
    have e1 : ReferenceIdeal.Gen.wq m' = KernelIdeal.Gen.wq m := funext fun c => (hagree c).2.1
    have e2 : ReferenceIdeal.Gen.ws m' = KernelIdeal.Gen.ws m := funext fun c => (hagree c).2.2.1
    have e3 : ReferenceIdeal.Gen.rs m' = KernelIdeal.Gen.rs m := funext fun c => (hagree c).2.2.2
    have h : ∀ c b s, InRange (amax (KernelIdeal.Gen.row m c b s)) := kernel_range m hpre
    run_from Cert.ReferenceIdeal.Gen.run_main m' g'
    · exact first m m' c e0 e1 e2 e3 h
    · exact second m m' c e0 h
    · exact third m m' c e0 h
    · exact (ReferenceIdeal.Gen.W_main_arg0 m' _ c).trans (hagree c).1
    · exact (ReferenceIdeal.Gen.W_main_arg2 m' _ c).trans (hagree c).2.2.1
    · exact (ReferenceIdeal.Gen.W_main_arg3 m' _ c).trans (hagree c).2.2.2

end Cert.Proof

end
-- ==== Proof.lean ====
module

public import proofs.«01_k».proof.Defs
public import proofs.«01_k».proof.Proof.KBits
public import proofs.«01_k».proof.Proof.Value

@[expose] public section

noncomputable section

namespace Cert.Proof

open Idealize.ShloMosaic Idealize.SL.Sem

/-- The frames of the kernel as bits and over the extended reals and of the reference; `preserves`; the value claim. -/
theorem claim : Cert.Claim :=
  ⟨Cert.Kernel.Gen.facts, Cert.KernelIdeal.Gen.facts, Cert.ReferenceIdeal.Gen.facts, pre_facts, kernel_frame,
    fun m g _ => Cert.KernelIdeal.Gen.frame m g, fun m g _ => Cert.KernelIdeal.Gen.frame m g,
    fun m g _ => Cert.ReferenceIdeal.Gen.frame m g, fun m g _ => Cert.ReferenceIdeal.Gen.frame m g, trivial, algebraic⟩

end Cert.Proof

end
